-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S8x1024 : Shape := ⟨2, ![8, 1024]⟩
abbrev S8 : Shape := ⟨1, ![8]⟩
abbrev S_ : Shape := ⟨0, ![]⟩
abbrev S32x1024 : Shape := ⟨2, ![32, 1024]⟩
abbrev S16x1024 : Shape := ⟨2, ![16, 1024]⟩
abbrev S4x1024 : Shape := ⟨2, ![4, 1024]⟩
abbrev S2x1024 : Shape := ⟨2, ![2, 1024]⟩
abbrev S64x1024 : Shape := ⟨2, ![64, 1024]⟩
abbrev S63x1024 : Shape := ⟨2, ![63, 1024]⟩
abbrev S62x1024 : Shape := ⟨2, ![62, 1024]⟩
abbrev S60x1024 : Shape := ⟨2, ![60, 1024]⟩
abbrev S56x1024 : Shape := ⟨2, ![56, 1024]⟩
abbrev S48x1024 : Shape := ⟨2, ![48, 1024]⟩
abbrev S1 : Shape := ⟨1, ![1]⟩
abbrev S31x1024 : Shape := ⟨2, ![31, 1024]⟩
abbrev S30x1024 : Shape := ⟨2, ![30, 1024]⟩
abbrev S28x1024 : Shape := ⟨2, ![28, 1024]⟩
abbrev S24x1024 : Shape := ⟨2, ![24, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .local _ .vmem, ⟨0, _⟩ => ⟨S2048x1024, .bf16⟩
  | .local _ .vmem, ⟨1, _⟩ => ⟨S2048x1024, .f32⟩
  | .local _ .vmem, ⟨2, _⟩ => ⟨S1x1024, .f32⟩
  | .local _ .vmem, ⟨3, _⟩ => ⟨S8x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v1217 : BitVec 32 := Scalar.addi v2 c1_i32_103
  let c8_i32_104 : BitVec 32 := 8#32
  let v1218 : BitVec 1 := Scalar.cmpi .slt v1217 c8_i32_104
  let v1219 : BitVec 32 := Scalar.extui v1218
  let c0_i32_107 : BitVec 32 := 0#32
  let v1220 : BitVec 1 := Scalar.cmpi .ne v1219 c0_i32_107
  v1220

def k0_dev8 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v1215 : BitVec 32 := Scalar.addi v2 c1_i32_101
  let c8_i32_102 : BitVec 32 := 8#32
  let v1216 : BitVec 32 := Scalar.remsi v1215 c8_i32_102
  let c1_i32_897 : BitVec 32 := 1#32
  let v3220 : BitVec 32 := Scalar.muli v1216 c1_i32_897
  let v3221 : BitVec 32 := Scalar.addi c0_i32_898 v3220
  v3221.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v1223 : BitVec 32 := Scalar.addi v2 c2_i32_110
  let c8_i32_111 : BitVec 32 := 8#32
  let v1224 : BitVec 1 := Scalar.cmpi .slt v1223 c8_i32_111
  let v1225 : BitVec 32 := Scalar.extui v1224
  let c0_i32_114 : BitVec 32 := 0#32
  let v1226 : BitVec 1 := Scalar.cmpi .ne v1225 c0_i32_114
  v1226

def k0_dev9 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v1221 : BitVec 32 := Scalar.addi v2 c2_i32_108
  let c8_i32_109 : BitVec 32 := 8#32
  let v1222 : BitVec 32 := Scalar.remsi v1221 c8_i32_109
  let c1_i32_897 : BitVec 32 := 1#32
  let v3220 : BitVec 32 := Scalar.muli v1222 c1_i32_897
  let v3221 : BitVec 32 := Scalar.addi c0_i32_898 v3220
  v3221.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v1229 : BitVec 32 := Scalar.addi v2 c3_i32_117
  let c8_i32_118 : BitVec 32 := 8#32
  let v1230 : BitVec 1 := Scalar.cmpi .slt v1229 c8_i32_118
  let v1231 : BitVec 32 := Scalar.extui v1230
  let c0_i32_121 : BitVec 32 := 0#32
  let v1232 : BitVec 1 := Scalar.cmpi .ne v1231 c0_i32_121
  v1232

def k0_dev10 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v1227 : BitVec 32 := Scalar.addi v2 c3_i32_115
  let c8_i32_116 : BitVec 32 := 8#32
  let v1228 : BitVec 32 := Scalar.remsi v1227 c8_i32_116
  let c1_i32_897 : BitVec 32 := 1#32
  let v3220 : BitVec 32 := Scalar.muli v1228 c1_i32_897
  let v3221 : BitVec 32 := Scalar.addi c0_i32_898 v3220
  v3221.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v1235 : BitVec 32 := Scalar.addi v2 c4_i32_124
  let c8_i32_125 : BitVec 32 := 8#32
  let v1236 : BitVec 1 := Scalar.cmpi .slt v1235 c8_i32_125
  let v1237 : BitVec 32 := Scalar.extui v1236
  let c0_i32_128 : BitVec 32 := 0#32
  let v1238 : BitVec 1 := Scalar.cmpi .ne v1237 c0_i32_128
  v1238

def k0_dev11 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v1233 : BitVec 32 := Scalar.addi v2 c4_i32_122
  let c8_i32_123 : BitVec 32 := 8#32
  let v1234 : BitVec 32 := Scalar.remsi v1233 c8_i32_123
  let c1_i32_897 : BitVec 32 := 1#32
  let v3220 : BitVec 32 := Scalar.muli v1234 c1_i32_897
  let v3221 : BitVec 32 := Scalar.addi c0_i32_898 v3220
  v3221.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_131 : BitVec 32 := 5#32
  let v1241 : BitVec 32 := Scalar.addi v2 c5_i32_131
  let c8_i32_132 : BitVec 32 := 8#32
  let v1242 : BitVec 1 := Scalar.cmpi .slt v1241 c8_i32_132
  let v1243 : BitVec 32 := Scalar.extui v1242
  let c0_i32_135 : BitVec 32 := 0#32
  let v1244 : BitVec 1 := Scalar.cmpi .ne v1243 c0_i32_135
  v1244

def k0_dev12 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v1239 : BitVec 32 := Scalar.addi v2 c5_i32_129
  let c8_i32_130 : BitVec 32 := 8#32
  let v1240 : BitVec 32 := Scalar.remsi v1239 c8_i32_130
  let c1_i32_897 : BitVec 32 := 1#32
  let v3220 : BitVec 32 := Scalar.muli v1240 c1_i32_897
  let v3221 : BitVec 32 := Scalar.addi c0_i32_898 v3220
  v3221.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v1247 : BitVec 32 := Scalar.addi v2 c6_i32_138
  let c8_i32_139 : BitVec 32 := 8#32
  let v1248 : BitVec 1 := Scalar.cmpi .slt v1247 c8_i32_139
  let v1249 : BitVec 32 := Scalar.extui v1248
  let c0_i32_142 : BitVec 32 := 0#32
  let v1250 : BitVec 1 := Scalar.cmpi .ne v1249 c0_i32_142
  v1250

def k0_dev13 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_136 : BitVec 32 := 6#32
  let v1245 : BitVec 32 := Scalar.addi v2 c6_i32_136
  let c8_i32_137 : BitVec 32 := 8#32
  let v1246 : BitVec 32 := Scalar.remsi v1245 c8_i32_137
  let c1_i32_897 : BitVec 32 := 1#32
  let v3220 : BitVec 32 := Scalar.muli v1246 c1_i32_897
  let v3221 : BitVec 32 := Scalar.addi c0_i32_898 v3220
  v3221.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_145 : BitVec 32 := 7#32
  let v1253 : BitVec 32 := Scalar.addi v2 c7_i32_145
  let c8_i32_146 : BitVec 32 := 8#32
  let v1254 : BitVec 1 := Scalar.cmpi .slt v1253 c8_i32_146
  let v1255 : BitVec 32 := Scalar.extui v1254
  let c0_i32_149 : BitVec 32 := 0#32
  let v1256 : BitVec 1 := Scalar.cmpi .ne v1255 c0_i32_149
  v1256

def k0_dev14 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_143 : BitVec 32 := 7#32
  let v1251 : BitVec 32 := Scalar.addi v2 c7_i32_143
  let c8_i32_144 : BitVec 32 := 8#32
  let v1252 : BitVec 32 := Scalar.remsi v1251 c8_i32_144
  let c1_i32_897 : BitVec 32 := 1#32
  let v3220 : BitVec 32 := Scalar.muli v1252 c1_i32_897
  let v3221 : BitVec 32 := Scalar.addi c0_i32_898 v3220
  v3221.toNat
def k0_dev15 (d0 : Dev nD) : Nat :=
  let c0_i32_901_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_897_r0 : BitVec 32 := 1#32
  let v3221_r0 : BitVec 32 := Scalar.addi v2 c1_i32_897_r0
  let c8_i32_898_r0 : BitVec 32 := 8#32
  let v3222_r0 : BitVec 32 := Scalar.remsi v3221_r0 c8_i32_898_r0
  let c1_i32_900_r0 : BitVec 32 := 1#32
  let v3223_r0 : BitVec 32 := Scalar.muli v3222_r0 c1_i32_900_r0
  let v3224_r0 : BitVec 32 := Scalar.addi c0_i32_901_r0 v3223_r0
  v3224_r0.toNat
def k0_dev16 (d0 : Dev nD) : Nat :=
  let c0_i32_906_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_902_r0 : BitVec 32 := 2#32
  let v3225_r0 : BitVec 32 := Scalar.addi v2 c2_i32_902_r0
  let c8_i32_903_r0 : BitVec 32 := 8#32
  let v3226_r0 : BitVec 32 := Scalar.remsi v3225_r0 c8_i32_903_r0
  let c1_i32_905_r0 : BitVec 32 := 1#32
  let v3227_r0 : BitVec 32 := Scalar.muli v3226_r0 c1_i32_905_r0
  let v3228_r0 : BitVec 32 := Scalar.addi c0_i32_906_r0 v3227_r0
  v3228_r0.toNat
def k0_dev17 (d0 : Dev nD) : Nat :=
  let c0_i32_911_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_907_r0 : BitVec 32 := 3#32
  let v3229_r0 : BitVec 32 := Scalar.addi v2 c3_i32_907_r0
  let c8_i32_908_r0 : BitVec 32 := 8#32
  let v3230_r0 : BitVec 32 := Scalar.remsi v3229_r0 c8_i32_908_r0
  let c1_i32_910_r0 : BitVec 32 := 1#32
  let v3231_r0 : BitVec 32 := Scalar.muli v3230_r0 c1_i32_910_r0
  let v3232_r0 : BitVec 32 := Scalar.addi c0_i32_911_r0 v3231_r0
  v3232_r0.toNat
def k0_dev18 (d0 : Dev nD) : Nat :=
  let c0_i32_916_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_912_r0 : BitVec 32 := 4#32
  let v3233_r0 : BitVec 32 := Scalar.addi v2 c4_i32_912_r0
  let c8_i32_913_r0 : BitVec 32 := 8#32
  let v3234_r0 : BitVec 32 := Scalar.remsi v3233_r0 c8_i32_913_r0
  let c1_i32_915_r0 : BitVec 32 := 1#32
  let v3235_r0 : BitVec 32 := Scalar.muli v3234_r0 c1_i32_915_r0
  let v3236_r0 : BitVec 32 := Scalar.addi c0_i32_916_r0 v3235_r0
  v3236_r0.toNat
def k0_dev19 (d0 : Dev nD) : Nat :=
  let c0_i32_921_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_917_r0 : BitVec 32 := 5#32
  let v3237_r0 : BitVec 32 := Scalar.addi v2 c5_i32_917_r0
  let c8_i32_918_r0 : BitVec 32 := 8#32
  let v3238_r0 : BitVec 32 := Scalar.remsi v3237_r0 c8_i32_918_r0
  let c1_i32_920_r0 : BitVec 32 := 1#32
  let v3239_r0 : BitVec 32 := Scalar.muli v3238_r0 c1_i32_920_r0
  let v3240_r0 : BitVec 32 := Scalar.addi c0_i32_921_r0 v3239_r0
  v3240_r0.toNat
def k0_dev20 (d0 : Dev nD) : Nat :=
  let c0_i32_926_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_922_r0 : BitVec 32 := 6#32
  let v3241_r0 : BitVec 32 := Scalar.addi v2 c6_i32_922_r0
  let c8_i32_923_r0 : BitVec 32 := 8#32
  let v3242_r0 : BitVec 32 := Scalar.remsi v3241_r0 c8_i32_923_r0
  let c1_i32_925_r0 : BitVec 32 := 1#32
  let v3243_r0 : BitVec 32 := Scalar.muli v3242_r0 c1_i32_925_r0
  let v3244_r0 : BitVec 32 := Scalar.addi c0_i32_926_r0 v3243_r0
  v3244_r0.toNat
def k0_dev21 (d0 : Dev nD) : Nat :=
  let c0_i32_931_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_927_r0 : BitVec 32 := 7#32
  let v3245_r0 : BitVec 32 := Scalar.addi v2 c7_i32_927_r0
  let c8_i32_928_r0 : BitVec 32 := 8#32
  let v3246_r0 : BitVec 32 := Scalar.remsi v3245_r0 c8_i32_928_r0
  let c1_i32_930_r0 : BitVec 32 := 1#32
  let v3247_r0 : BitVec 32 := Scalar.muli v3246_r0 c1_i32_930_r0
  let v3248_r0 : BitVec 32 := Scalar.addi c0_i32_931_r0 v3247_r0
  v3248_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S_, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S_, .i32⟩
  | .hbm, ⟨7, _⟩ => ⟨S16384x1024, .f32⟩
  | .hbm, ⟨8, _⟩ => ⟨S_, .i32⟩
  | .hbm, ⟨9, _⟩ => ⟨S1024, .f32⟩
  | .hbm, ⟨10, _⟩ => ⟨S16384x1024, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x1024, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S_, .i32⟩
  | .hbm, ⟨19, _⟩ => ⟨S16384x1024, .f32⟩
  | .hbm, ⟨20, _⟩ => ⟨S_, .i32⟩
  | .hbm, ⟨21, _⟩ => ⟨S_, .i32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 16384#32, 1#32⟩
-- ==== Proof.KernelIdeal.Vals.lean ====
module

public import proofs.«01_k».proof.Proof.Gen.KernelIdeal
public import proofs.«01_k».proof.Proof.Gen.KernelIdeal.Skeleton
public import Idealize.ShloMosaic.Lib.Tactic

/-! What one device computes, as functions of the arrays it reads: the totals of its 64 groups of 32 rows, their
inclusive scan, the row it sends to the later devices, the product of the rows it received, and each group of its
result. Nothing here runs the program. -/

@[expose] public section

noncomputable section

namespace Cert.KernelIdeal.Scan

open Cert.KernelIdeal Cert.KernelIdeal.Gen
open Idealize.ShloMosaic Idealize.ShloMosaic.TcCoe

variable {F : FTy → Type} [FloatOps F]

/-- A device's block of `x`, as its staging buffer holds it. -/
abbrev XC (F : FTy → Type) : Type := (cc0_stg0_0 : Ref sig .tc).ty.Contents (Elt F)
/-- A device's block of the result. -/
abbrev OC (F : FTy → Type) : Type := (cc0_stg1_0 : Ref sig .tc).ty.Contents (Elt F)
/-- The one row that a device sends. -/
abbrev SC (F : FTy → Type) : Type := (cc0_scratch0 : Ref sig .tc).ty.Contents (Elt F)
/-- The eight rows that a device receives into. -/
abbrev BC (F : FTy → Type) : Type := (cc0_scratch1 : Ref sig .tc).ty.Contents (Elt F)

theorem inbX (g : Fin 64) : ∀ a, (![32 * g.val, 0] : Fin 2 → Nat) a + S32x1024.size a ≤ S2048x1024.size a :=
  Fin.forall_fin_two.mpr ⟨by show 32 * g.val + 32 ≤ 2048; omega, by show 0 + 1024 ≤ 1024; omega⟩

/-- Group `g`: rows `32 g` to `32 g + 31`. -/
abbrev grp (g : Fin 64) : Rect S2048x1024 := Rect.unit (s := S2048x1024) ![32 * g.val, 0] S32x1024.size (inbX g)

/-- Group `g` of a device's block of `x`. -/
def xg (x : XC F) (g : Fin 64) : Vec F S32x1024 .bf16 :=
  View.readAt (Elt F) (Memref.whole cc0_stg0_0).view (grp g).toLoadRect x

/-- The product of group `g`'s rows. -/
def tt (x : XC F) (g : Fin 64) : FVec F S1x1024 .bf16 := k0_pay2 (xg x g)

/-- The running products of the 64 group totals after the first three doubling steps, before the fourth's shift. -/
def inc3 (x : XC F) : FVec F S64x1024 .f32 := k0_pay94
    (tt x 0) (tt x 1) (tt x 2) (tt x 3) (tt x 4) (tt x 5) (tt x 6) (tt x 7)
    (tt x 8) (tt x 9) (tt x 10) (tt x 11) (tt x 12) (tt x 13) (tt x 14) (tt x 15)
    (tt x 16) (tt x 17) (tt x 18) (tt x 19) (tt x 20) (tt x 21) (tt x 22) (tt x 23)
    (tt x 24) (tt x 25) (tt x 26) (tt x 27) (tt x 28) (tt x 29) (tt x 30) (tt x 31)
    (tt x 32) (tt x 33) (tt x 34) (tt x 35) (tt x 36) (tt x 37) (tt x 38) (tt x 39)
    (tt x 40) (tt x 41) (tt x 42) (tt x 43) (tt x 44) (tt x 45) (tt x 46) (tt x 47)
    (tt x 48) (tt x 49) (tt x 50) (tt x 51) (tt x 52) (tt x 53) (tt x 54) (tt x 55)
    (tt x 56) (tt x 57) (tt x 58) (tt x 59) (tt x 60) (tt x 61)
    (xg x 62) (xg x 63)
/-- The fourth doubling step's shifted operand. -/
def inc3s (x : XC F) : FVec F S64x1024 .f32 := k0_pay95
    (tt x 0) (tt x 1) (tt x 2) (tt x 3) (tt x 4) (tt x 5) (tt x 6) (tt x 7)
    (tt x 8) (tt x 9) (tt x 10) (tt x 11) (tt x 12) (tt x 13) (tt x 14) (tt x 15)
    (tt x 16) (tt x 17) (tt x 18) (tt x 19) (tt x 20) (tt x 21) (tt x 22) (tt x 23)
    (tt x 24) (tt x 25) (tt x 26) (tt x 27) (tt x 28) (tt x 29) (tt x 30) (tt x 31)
    (tt x 32) (tt x 33) (tt x 34) (tt x 35) (tt x 36) (tt x 37) (tt x 38) (tt x 39)
    (tt x 40) (tt x 41) (tt x 42) (tt x 43) (tt x 44) (tt x 45) (tt x 46) (tt x 47)
    (tt x 48) (tt x 49) (tt x 50) (tt x 51) (tt x 52) (tt x 53) (tt x 54) (tt x 55)
    (tt x 56) (tt x 57) (tt x 58) (tt x 59) (tt x 60) (tt x 61)
    (xg x 62) (xg x 63)
/-- The inclusive running products of the 64 group totals. -/
def inc (x : XC F) : FVec F S64x1024 .f32 := k0_pay96 (inc3 x) (inc3s x)

theorem slicesInc (g : ℕ) (h : g < 64) : S64x1024.Slices ![g, 0] S1x1024 :=
  ⟨rfl, Fin.forall_fin_two.mpr ⟨by show g + 1 ≤ 64; omega, by show 0 + 1024 ≤ 1024; omega⟩⟩

/-- The product of all groups before group `g`. -/
def gp (x : XC F) : (g : ℕ) → g < 64 → FVec F S1x1024 .f32
  | 0, _ => k0_pay1
  | g + 1, h => extractStridedSlice S1x1024 ![g, 0] (inc x) (slicesInc g (by omega))

/-- The product of a device's whole block: the row that it sends. -/
def tot (x : XC F) : FVec F S1x1024 .f32 := k0_pay160 (inc x)

/-- The device `o` places before `c`, and the one `o` places after. -/
def dn (c : Dev nD) (o : Fin 8) : Dev nD := ⟨(c.val + (8 - o.val)) % 8, Nat.mod_lt _ (by decide)⟩
def up (c : Dev nD) (o : Fin 8) : Dev nD := ⟨(c.val + o.val) % 8, Nat.mod_lt _ (by decide)⟩

/-- What device `c` receives: row `o` is the product of the block of the device `o` places before it. -/
def recvd (xs : Dev nD → XC F) (c : Dev nD) : BC F := fun i => tot (xs (dn c (i 0))) (fun a => match a with | 0 => ⟨0, by decide⟩ | 1 => i 1)

/-- Device `c`'s number as the program computes it. -/
def me (c : Dev nD) : BitVec 32 := Scalar.remsi (Scalar.divsi (Dev.word c) 1#32) 8#32

/-- The product of the received rows `1` to `c` out of the eight. -/
def pre (c : Dev nD) (b : BC F) : FVec F S1x1024 .f32 :=
  k0_pay215 (me c) (iota .tc S8x1024 32 [0] (by decide)) k0_pay214
    (View.readAt (Elt F) (Memref.whole cc0_scratch1).view
      (Rect.unit (s := S8x1024) ![0, 0] S8x1024.size inb_S8x1024_S8x1024_0_0).toLoadRect b)

/-- Group `g` scanned with the product of the groups before it in the device. -/
def sc1 (x : XC F) (g : Fin 64) : FVec F S32x1024 .f32 := k0_pay161 (gp x g.val g.isLt) (xg x g)
/-- Group `g` scanned with the product of everything before it, the received product being `p`. -/
def sc2 (x : XC F) (p : FVec F S1x1024 .f32) (g : Fin 64) : FVec F S32x1024 .f32 :=
  k0_pay161 (mulf (gp x g.val g.isLt) p) (xg x g)
/-- The first 26 groups are multiplied by the received product afterwards, the others are scanned with it. -/
def res (x : XC F) (p : FVec F S1x1024 .f32) (g : Fin 64) : FVec F S32x1024 .f32 :=
  if g.val < 26 then k0_pay337 p (sc1 x g) else sc2 x p g

theorem row_lt (i : S2048x1024.Idx) : (i 0).val / 32 < 64 := by
  have h : (i 0).val < 2048 := (i 0).isLt
  omega

/-- Device `c`'s result, row by row out of its groups. -/
def outC (x : XC F) (p : FVec F S1x1024 .f32) : OC F := fun i =>
  res x p ⟨(i 0).val / 32, row_lt i⟩ (fun a => match a with | 0 => ⟨(i 0).val % 32, Nat.mod_lt _ (by decide)⟩ | 1 => i 1)

end Cert.KernelIdeal.Scan

end
-- ==== Proof.KernelIdeal.Proto.lean ====
module

public import proofs.«01_k».proof.Proof.KernelIdeal.Vals
public import proofs.«01_k».proof.Proof.Gen.KernelIdeal.Launch
public import Idealize.ShloMosaic.Lib.Pipeline.Launch
public import Idealize.ShloMosaic.Lib.Pipeline.Kit
public import Idealize.ShloMosaic.Lib.ShareLeaves

/-! The protocol between the eight devices: the semaphore cells, what each landing on a cell hands to the cell's owner,
what each device owes at launch, and the levels that order the waits.

Device `c` has one entry barrier cell, one exit barrier cell, and for each distance `o` from 1 to 7 a send cell and a
receive cell. At the entry barrier every device signals the seven others; the signal to the device `o` places before it
carries row `o` of its receive buffer, where that device is going to write, provided that it lies in the mesh without
wrapping around. -/

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Buffers and cells -/

abbrev xM : Memref sig .tc .vmem S2048x1024 .bf16 := Memref.whole cc0_stg0_0
abbrev oM : Memref sig .tc .vmem S2048x1024 .f32 := Memref.whole cc0_stg1_0
abbrev sM : Memref sig .tc .vmem S1x1024 .f32 := Memref.whole cc0_scratch0
abbrev bM : Memref sig .tc .vmem S8x1024 .f32 := Memref.whole cc0_scratch1

theorem inbRow (o : Fin 8) : ∀ a, (![o.val, 0] : Fin 2 → Nat) a + S1x1024.size a ≤ S8x1024.size a :=
  Fin.forall_fin_two.mpr ⟨by show o.val + 1 ≤ 8; omega, by show 0 + 1024 ≤ 1024; omega⟩
/-- Row `o` of the receive buffer. -/
abbrev rowM (o : Fin 8) : Memref sig .tc .vmem S1x1024 .f32 :=
  bM.slice (Rect.unit (s := S8x1024) ![o.val, 0] S1x1024.size (inbRow o)) (fun _ => rfl)

abbrev barS : Sem sig := (SemArray.scalar (sig.barrier 0 rfl) : Sems sig S_).sem
abbrev bar2S : Sem sig := cc0_scoped0.sem
abbrev sndS (o : Fin 8) : DmaSem sig := (⟨o.val + 2, by have := o.isLt; show o.val + 2 < 18; omega⟩ : Fin 18)
abbrev rcvS (o : Fin 8) : DmaSem sig := (⟨o.val + 10, by have := o.isLt; show o.val + 10 < 18; omega⟩ : Fin 18)

/-- The eighteen semaphores of the protocol, numbered: the entry barrier, the exit barrier, the send and the receive
semaphores. -/
def csem : Fin 18 → SemLoc sig
  | ⟨0, _⟩ => .reg barS
  | ⟨1, _⟩ => .reg bar2S
  | ⟨k + 2, h⟩ => .dma (⟨k + 2, h⟩ : Fin 18)

abbrev barI : Fin 18 := 0
abbrev bar2I : Fin 18 := 1
abbrev sndI (o : Fin 8) : Fin 18 := ⟨o.val + 2, by have := o.isLt; omega⟩
abbrev rcvI (o : Fin 8) : Fin 18 := ⟨o.val + 10, by have := o.isLt; omega⟩

abbrev barC (c : Dev nD) : GSem nD τ sig := ((c : Thread nD τ), .reg barS)
abbrev bar2C (c : Dev nD) : GSem nD τ sig := ((c : Thread nD τ), .reg bar2S)
abbrev sndC (c : Dev nD) (o : Fin 8) : GSem nD τ sig := ((c : Thread nD τ), .dma (sndS o))
abbrev rcvC (c : Dev nD) (o : Fin 8) : GSem nD τ sig := ((c : Thread nD τ), .dma (rcvS o))
abbrev kcell (ck : Dev nD × Fin 18) : GSem nD τ sig := ((ck.1 : Thread nD τ), csem ck.2)

theorem kcell_bar (c : Dev nD) : kcell (c, barI) = barC c := rfl
theorem kcell_bar2 (c : Dev nD) : kcell (c, bar2I) = bar2C c := rfl
theorem kcell_snd (c : Dev nD) (o : Fin 8) : kcell (c, sndI o) = sndC c o := rfl
theorem kcell_rcv (c : Dev nD) (o : Fin 8) : kcell (c, rcvI o) = rcvC c o := rfl

/-- What a semaphore is for. -/
inductive Kd | bar | bar2 | snd (o : Fin 8) | rcv (o : Fin 8) | other

def kd : SemLoc sig → Kd
  | .reg s => if s = barS then .bar else if s = bar2S then .bar2 else .other
  | .dma ⟨0, _⟩ => .other
  | .dma ⟨1, _⟩ => .other
  | .dma ⟨k + 2, h⟩ => if h' : k < 8 then .snd ⟨k, h'⟩ else .rcv ⟨k - 8, by have : k + 2 < 18 := h; omega⟩

theorem kd_bar : kd (.reg barS) = .bar := by unfold kd; exact if_pos rfl
theorem kd_bar2 : kd (.reg bar2S) = .bar2 := by
  unfold kd; exact (if_neg (by decide)).trans (if_pos rfl)
theorem kd_snd (o : Fin 8) : kd (.dma (sndS o)) = .snd o := by
  show (if h' : o.val < 8 then Kd.snd ⟨o.val, h'⟩ else _) = _
  rw [dif_pos o.isLt]
theorem kd_rcv (o : Fin 8) : kd (.dma (rcvS o)) = .rcv o := by
  show (if h' : o.val + 8 < 8 then Kd.snd ⟨o.val + 8, h'⟩ else Kd.rcv ⟨o.val + 8 - 8, _⟩) = _
  rw [dif_neg (by omega)]; simp

/-- The credit of one row. -/
abbrev N : ℕ := (rowM 0).view.dmaCredit
theorem N_pos : 0 < N := View.dmaCredit_pos _ (by decide)
theorem N_row (o : Fin 8) : (rowM o).view.dmaCredit = N := rfl

/-- The distance back: `8 - o`. -/
def neg (o : Fin 8) : Fin 8 := ⟨(8 - o.val) % 8, Nat.mod_lt _ (by decide)⟩

theorem up_up_neg (c : Dev nD) (o : Fin 8) : up (up c o) (neg o) = c := by revert c o; decide
theorem up_neg_lt (c : Dev nD) (o : Fin 8) (ho : o ≠ 0) : (up c o).val + (neg o).val < 8 ↔ (neg o).val ≤ c.val := by
  revert c o; decide
theorem dn_up (c : Dev nD) (o : Fin 8) : dn (up c o) o = c := by revert c o; decide
theorem up_dn (c : Dev nD) (o : Fin 8) : up (dn c o) o = c := by revert c o; decide
theorem up_val (c : Dev nD) (o : Fin 8) (h : c.val + o.val < 8) : (up c o).val = c.val + o.val := Nat.mod_eq_of_lt h

/-! ## The schedule -/

variable (xs : Dev nD → XC F)

/-- Row `o` of device `c`'s receive buffer, at contents `f`. -/
def rowPts (c : Dev nD) (o : Fin 8) (f : BC F) : sProp 𝕄 :=
  (rowM o).view.loc (c : Thread nD τ) ↦[(rowM o).view.set]{fullShare} f
/-- The `o`-th share of device `c`'s send row, holding its total. -/
def srowPts (c : Dev nD) (o : Fin 8) : sProp 𝕄 :=
  sM.view.loc (c : Thread nD τ) ↦[sM.view.set]{ShareLeaves.leaf 3 fullShare o} (tot (xs c) : SC F)

/-- The place where device `c`'s copy to the device `o` places after it lands, if there is such a device. -/
def land (c : Dev nD) (o : Fin 8) : sProp 𝕄 := if c.val + o.val < 8 then iprop(∃ f, rowPts (F := F) (up c o) o f) else iprop(emp)

omit [FloatOps F] in
instance rowPts_storable (c : Dev nD) (o : Fin 8) (f : BC F) : BI.Storable (upEmb : UEmb _ 𝕄) (rowPts c o f) := by
  unfold rowPts; infer_instance
instance srowPts_storable (c : Dev nD) (o : Fin 8) : BI.Storable (upEmb : UEmb _ 𝕄) (srowPts xs c o) := by
  unfold srowPts; infer_instance
omit [FloatOps F] in
instance land_storable (c : Dev nD) (o : Fin 8) : BI.Storable (upEmb : UEmb _ 𝕄) (land (F := F) c o) := by
  unfold land; split <;> infer_instance

def dutiesK (c : Dev nD) : Kd → Finset (Fin 8)
  | .bar => Finset.univ.erase 0
  | .bar2 => Finset.univ.erase 0
  | .snd o => if o ≠ 0 ∧ c.val + o.val < 8 then {0} else ∅
  | .rcv o => if o ≠ 0 ∧ o.val ≤ c.val then {0} else ∅
  | .other => ∅
def amountK : Kd → ℕ
  | .snd _ => N
  | .rcv _ => N
  | _ => 1
def payloadK (c : Dev nD) : Kd → Fin 8 → sProp 𝕄
  | .bar, d => land c (neg d)
  | .snd o, _ => srowPts xs c o
  | .rcv o, _ => rowPts c o (recvd xs c)
  | _, _ => iprop(emp)

/-- One round. A barrier cell has a duty of one unit for each distance; a send or receive cell one duty of a row's
credit, if its copy is made at all. -/
def Rd : Rounds.Schedule (GSem nD τ sig) (Fin 8) 𝕄 where
  duties g r := if r = 0 ∧ g.1.2 = .tc then dutiesK g.1.1 (kd g.2) else ∅
  unitless _ := False
  amount g _ _ := amountK (kd g.2)
  payload g _ d := payloadK xs g.1.1 (kd g.2) d
  amount_pos g _ _ _ := by
    show 0 < amountK (kd g.2)
    cases kd g.2 <;> first | exact N_pos | exact Nat.one_pos

instance Rd_payload_storable (g : GSem nD τ sig) (r : ℕ) (d : Fin 8) :
    BI.Storable (upEmb : UEmb _ 𝕄) ((Rd xs).payload g r d) := by
  show BI.Storable upEmb (payloadK xs g.1.1 (kd g.2) d)
  cases kd g.2 <;> unfold payloadK <;> infer_instance

section Tables
variable (c : Dev nD) (o : Fin 8) (d : Fin 8)

theorem duties_tc (sm : SemLoc sig) : (Rd xs).duties ((c : Thread nD τ), sm) 0 = dutiesK c (kd sm) := by
  dsimp only [Rd]; exact if_pos ⟨rfl, rfl⟩
theorem duties_bar : (Rd xs).duties (barC c) 0 = Finset.univ.erase 0 := by rw [duties_tc, kd_bar]; rfl
theorem duties_bar2 : (Rd xs).duties (bar2C c) 0 = Finset.univ.erase 0 := by rw [duties_tc, kd_bar2]; rfl
theorem duties_snd (ho : o ≠ 0) (h : c.val + o.val < 8) : (Rd xs).duties (sndC c o) 0 = {0} := by
  rw [duties_tc, kd_snd]; exact if_pos ⟨ho, h⟩
theorem duties_snd_none (h : ¬ (o ≠ 0 ∧ c.val + o.val < 8)) : (Rd xs).duties (sndC c o) 0 = ∅ := by
  rw [duties_tc, kd_snd]; exact if_neg h
theorem duties_rcv (ho : o ≠ 0) (h : o.val ≤ c.val) : (Rd xs).duties (rcvC c o) 0 = {0} := by
  rw [duties_tc, kd_rcv]; exact if_pos ⟨ho, h⟩
theorem duties_rcv_none (h : ¬ (o ≠ 0 ∧ o.val ≤ c.val)) : (Rd xs).duties (rcvC c o) 0 = ∅ := by
  rw [duties_tc, kd_rcv]; exact if_neg h
theorem duties_later (g : GSem nD τ sig) : ∀ r, 1 ≤ r → (Rd xs).duties g r = ∅ := fun r hr => if_neg fun h => by omega
theorem duties_never (g : GSem nD τ sig) (h : (Rd xs).duties g 0 = ∅) : ∀ r, 0 ≤ r → (Rd xs).duties g r = ∅ := fun r _ => by
  rcases Nat.eq_zero_or_pos r with rfl | hr
  · exact h
  · exact duties_later xs g r hr

theorem amount_bar : (Rd xs).amount (barC c) 0 d = 1 := by show amountK (kd (.reg barS)) = 1; rw [kd_bar]; rfl
theorem amount_bar2 : (Rd xs).amount (bar2C c) 0 d = 1 := by show amountK (kd (.reg bar2S)) = 1; rw [kd_bar2]; rfl
theorem amount_snd : (Rd xs).amount (sndC c o) 0 d = N := by show amountK (kd (.dma (sndS o))) = N; rw [kd_snd]; rfl
theorem amount_rcv : (Rd xs).amount (rcvC c o) 0 d = N := by show amountK (kd (.dma (rcvS o))) = N; rw [kd_rcv]; rfl

theorem payload_bar : (Rd xs).payload (barC c) 0 d = land c (neg d) := by
  show payloadK xs c (kd (.reg barS)) d = _; rw [kd_bar]; rfl
theorem payload_bar2 : (Rd xs).payload (bar2C c) 0 d = iprop(emp) := by
  show payloadK xs c (kd (.reg bar2S)) d = _; rw [kd_bar2]; rfl
theorem payload_snd : (Rd xs).payload (sndC c o) 0 d = srowPts xs c o := by
  show payloadK xs c (kd (.dma (sndS o))) d = _; rw [kd_snd]; rfl
theorem payload_rcv : (Rd xs).payload (rcvC c o) 0 d = rowPts c o (recvd xs c) := by
  show payloadK xs c (kd (.dma (rcvS o))) d = _; rw [kd_rcv]; rfl

theorem expect_bar : (Rd xs).expect (barC c) 0 = 7 := by
  unfold Schedule.expect Schedule.amountOf
  rw [duties_bar, Finset.sum_congr rfl fun d _ => amount_bar xs c d]; rfl
theorem expect_bar2 : (Rd xs).expect (bar2C c) 0 = 7 := by
  unfold Schedule.expect Schedule.amountOf
  rw [duties_bar2, Finset.sum_congr rfl fun d _ => amount_bar2 xs c d]; rfl
theorem expect_snd (ho : o ≠ 0) (h : c.val + o.val < 8) : (Rd xs).expect (sndC c o) 0 = N := by
  unfold Schedule.expect Schedule.amountOf; rw [duties_snd xs c o ho h, Finset.sum_singleton, amount_snd]
theorem expect_rcv (ho : o ≠ 0) (h : o.val ≤ c.val) : (Rd xs).expect (rcvC c o) 0 = N := by
  unfold Schedule.expect Schedule.amountOf; rw [duties_rcv xs c o ho h, Finset.sum_singleton, amount_rcv]

/-- What the entry barrier's wait hands over: the seven landing places. -/
theorem rest_bar : bigSep ((Rd xs).duties (barC c) 0 \ ∅) (fun d => (Rd xs).payload (barC c) 0 d)
    = iprop(land (F := F) c 7 ∗ land c 6 ∗ land c 5 ∗ land c 4 ∗ land c 3 ∗ land c 2 ∗ land c 1) := by
  rw [Finset.sdiff_empty, duties_bar,
    bigSep_eq_bigSepL_of_eq [(1 : Fin 8), 2, 3, 4, 5, 6, 7] (by decide) (by decide)]
  simp only [payload_bar]; rfl
theorem rest_snd (ho : o ≠ 0) (h : c.val + o.val < 8) :
    bigSep ((Rd xs).duties (sndC c o) 0 \ ∅) (fun d => (Rd xs).payload (sndC c o) 0 d) = srowPts xs c o := by
  rw [Finset.sdiff_empty, duties_snd xs c o ho h, bigSep_singleton, payload_snd]
theorem rest_rcv (ho : o ≠ 0) (h : o.val ≤ c.val) :
    bigSep ((Rd xs).duties (rcvC c o) 0 \ ∅) (fun d => (Rd xs).payload (rcvC c o) 0 d) = rowPts c o (recvd xs c) := by
  rw [Finset.sdiff_empty, duties_rcv xs c o ho h, bigSep_singleton, payload_rcv]

end Tables

/-! ## What a device owes, and the levels -/

abbrev CT : Type := CellTallies nD τ sig Unit

def sigT (c : Dev nD) (o : Fin 8) : CT := tallyAt (barC (up c o)) () 1
def rcvT (c : Dev nD) (o : Fin 8) : CT := if c.val + o.val < 8 then tallyAt (rcvC (up c o) o) () N else 0
def sig2T (c : Dev nD) (o : Fin 8) : CT := tallyAt (bar2C (up c o)) () 1

/-- The terms of a list, the first outermost, on top of `R`. -/
def owe (t : Fin 8 → CT) : List (Fin 8) → CT → CT
  | [], R => R
  | o :: l, R => owe t l R + t o

abbrev offs : List (Fin 8) := [1, 2, 3, 4, 5, 6, 7]

/-- What is left to owe after the entry signals, and after the copies. -/
def O₂ (c : Dev nD) : CT := owe (sig2T c) offs 0
def O₁ (c : Dev nD) : CT := owe (rcvT c) offs (O₂ c)
/-- What device `c` owes at launch: a unit to every other entry barrier, a row to each later device, a unit to every
other exit barrier. -/
def O₀ (c : Dev nD) : CT := owe (sigT c) offs (O₁ c)

theorem owe_apply (t : Fin 8 → CT) (g : GSem nD τ sig) (u : Unit) : ∀ (l : List (Fin 8)) (R : CT),
    owe t l R g u = R g u + (l.map fun o => t o g u).sum
  | [], R => by simp [owe]
  | o :: l, R => by
    show (owe t l R + t o) g u = _
    rw [Pi.add_apply, Finsupp.add_apply, owe_apply t g u l R, List.map_cons, List.sum_cons]; omega

theorem owe_pos {t : Fin 8 → CT} {l : List (Fin 8)} {R : CT} {g : GSem nD τ sig} {u : Unit} (h : 0 < owe t l R g u) :
    (∃ o, 0 < t o g u) ∨ 0 < R g u := by
  by_contra hn
  rw [not_or, not_exists] at hn
  rw [owe_apply, Nat.eq_zero_of_not_pos hn.2, List.map_congr_left (g := fun _ => 0) fun o _ => Nat.eq_zero_of_not_pos (hn.1 o)] at h
  simp at h

theorem tally_pos {g g' : GSem nD τ sig} {u : Unit} {k : ℕ} (h : 0 < (tallyAt g' () k : CT) g u) : g = g' := by
  rw [tallyAt_apply] at h
  by_contra hn
  rw [if_neg fun h' => hn h'.1] at h
  exact Nat.lt_irrefl 0 h

def L (g : GSem nD τ sig) : Finset Unit := if g.1.2 = .tc then {()} else ∅
def lvK : Kd → ℕ
  | .bar => 1
  | .rcv _ => 2
  | .bar2 => 3
  | _ => 0
/-- The entry barriers lie below the receive cells, those below the exit barriers; everything else is at the bottom. -/
def lv (g : GSem nD τ sig) (_ : Unit) : ℕ := lvK (kd g.2)

theorem L_of_ne (g : GSem nD τ sig) (h : g.1.2 ≠ .tc) : L g = ∅ := if_neg h

theorem O₂_pos {c : Dev nD} {g : GSem nD τ sig} {u : Unit} (h : 0 < O₂ c g u) : g.1.2 = .tc ∧ lv g u = 3 := by
  rcases owe_pos h with ⟨o, ho⟩ | h0
  · rw [tally_pos ho]; exact ⟨rfl, by show lvK (kd _) = 3; rw [kd_bar2]; rfl⟩
  · exact absurd h0 (Nat.lt_irrefl 0)
theorem O₁_pos {c : Dev nD} {g : GSem nD τ sig} {u : Unit} (h : 0 < O₁ c g u) : g.1.2 = .tc ∧ 2 ≤ lv g u := by
  rcases owe_pos h with ⟨o, ho⟩ | h0
  · unfold rcvT at ho
    split at ho
    · rw [tally_pos ho]; exact ⟨rfl, by show 2 ≤ lvK (kd _); rw [kd_rcv]; exact le_refl 2⟩
    · exact absurd ho (Nat.lt_irrefl 0)
  · exact ⟨(O₂_pos h0).1, by rw [(O₂_pos h0).2]; decide⟩
theorem O₀_pos {c : Dev nD} {g : GSem nD τ sig} {u : Unit} (h : 0 < O₀ c g u) : g.1.2 = .tc ∧ 1 ≤ lv g u := by
  rcases owe_pos h with ⟨o, ho⟩ | h0
  · rw [tally_pos ho]; exact ⟨rfl, by show 1 ≤ lvK (kd _); rw [kd_bar]; exact le_refl 1⟩
  · exact ⟨(O₁_pos h0).1, le_trans (by decide) (O₁_pos h0).2⟩

omit [FloatOps F] in
/-- A device may wait on a cell below everything that it owes. -/
theorem mayWait_below (c : Dev nD) (sm : SemLoc sig) (O : CT) (b : ℕ) (hb : lvK (kd sm) ≤ b)
    (hO : ∀ g u, 0 < O g u → g.1.2 = .tc ∧ b < lv g u) :
    (levAts L lv : sProp 𝕄) ⊢ MayWait (c : Thread nD τ) sm () O :=
  MayOwe.of_cut (L := L) (lev := lv) b
    (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-! ## The records that every device holds -/

/-- Every cell's invariant, at the name the launch chose, and that its round 0 is reached. -/
def records (K : Dev nD × Fin 18 → ℕ) : sProp 𝕄 :=
  iprop((bigSep Finset.univ fun ck : Dev nD × Fin 18 => cellInv ER (Rd xs) (K ck) (kcell ck))
    ∗ bigSep Finset.univ fun ck : Dev nD × Fin 18 => reached ER (kcell ck) 0)

instance records_persistent (K : Dev nD × Fin 18 → ℕ) : BI.Persistent (records xs K) := by unfold records; infer_instance

theorem inv_at (K : Dev nD × Fin 18 → ℕ) (c : Dev nD) (k : Fin 18) (g : GSem nD τ sig) (hg : kcell (c, k) = g) :
    records xs K ⊢ cellInv ER (Rd xs) (K (c, k)) g := by
  subst hg; unfold records; exact sep_elim_left.trans (bigSep_elim (Finset.mem_univ (c, k)))
theorem reached_at (K : Dev nD × Fin 18 → ℕ) (c : Dev nD) (k : Fin 18) (g : GSem nD τ sig) (hg : kcell (c, k) = g) :
    records xs K ⊢ reached ER g 0 := by
  subst hg; unfold records; exact sep_elim_right.trans (bigSep_elim (Finset.mem_univ (c, k)))

end Cert.KernelIdeal.Scan

end
-- ==== Proof.KernelIdeal.Steps.lean ====
module

public import proofs.«01_k».proof.Proof.KernelIdeal.Proto

/-! The synchronisation steps of the kernel's body, each stated once for every distance `o`: the entry signal, the entry
wait, the guarded copy, the guarded wait for a received row, the guarded wait for a sent row, the exit signal and the
exit wait. A guarded step is stated for the whole conditional, so that both branches go on as one. -/

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (xs : Dev nD → XC F) (K : Dev nD × Fin 18 → ℕ) (c : Dev nD) (o : Fin 8)

/-- What device `c` owes, whatever waits it has recorded. -/
def owing (O : CT) : sProp 𝕄 := iprop(∃ W, owes (c : Thread nD τ) O W)

/-- Row `o` of device `c` while it is with the device that writes it: nothing, or the row if no device does. -/
def kept (f : BC F) : sProp 𝕄 := if o.val ≤ c.val then iprop(emp) else rowPts c o f
/-- The share of the send row while the copy to distance `o` reads it: the right to wait for the copy, or the share if
there is no such copy. -/
def flight : sProp 𝕄 := if c.val + o.val < 8 then cred (tallyAt (sndC c o) () N) else srowPts xs c o
/-- The right to wait for the row from distance `o`, if one comes. -/
def rcvCred : sProp 𝕄 := if o ≠ 0 ∧ o.val ≤ c.val then cred (tallyAt (rcvC c o) () N) else iprop(emp)

omit [FloatOps F] in
/-- Handing over row `8 - o` with the signal at distance `o`. -/
theorem land_intro (ho : o ≠ 0) (f : BC F) : rowPts c (neg o) f ⊢ iprop(land (F := F) (up c o) (neg o) ∗ kept c (neg o) f) := by
  unfold land kept
  rw [up_up_neg]
  by_cases h : (neg o).val ≤ c.val
  · rw [if_pos ((up_neg_lt c o ho).mpr h), if_pos h]
    iintro H
    isplitl [H]
    · iexists f; iexact H
    · iempintro
  · rw [if_neg (fun h' => h ((up_neg_lt c o ho).mp h')), if_neg h]
    iintro H
    isplitr
    · iempintro
    · iexact H

/-- The entry signal to the device `o` places after `c`. -/
theorem step_signal {β : Type} {Q : β → sProp 𝕄} (ho : o ≠ 0) (dst : Dev nD) (hdst : dst.val = (c.val + o.val) % 8) (l : List (Fin 8)) (R : CT) (f : BC F)
    {k : PUnit → Prog (TpuEff nD τ sig (Elt F) Λ₀ .tc) β} :
    iprop(records xs K ∗ owing c (owe (sigT c) (o :: l) R) ∗ dutyTok ER (barC (up c o)) 0 o ∗ rowPts c (neg o) f
        ∗ (iprop(owing c (owe (sigT c) l R) ∗ kept c (neg o) f) -∗ wp frame (wpE (defs₀ (F := F)) 𝒱₀ c none) Set.univ (k ⟨⟩) Q))
      ⊢ wp frame (wpE (defs₀ (F := F)) 𝒱₀ c none) Set.univ (.op (.semSignal (dst : Thread nD τ) barS (1#32).toInt) k) Q := by
  obtain rfl : dst = up c o := Fin.ext hdst
  unfold owing
  iintro ⟨#HR, ⟨%W, HO⟩, Ht, Hrow, Hk⟩
  ihave Hl := (land_intro c o ho f) $$ Hrow
  icases Hl with ⟨Hl, Hkept⟩
  iapply (Rounds.wp_signal 𝒱₀ ER (Rd xs) (c : Thread nD τ) none (dst := (up c o : Thread nD τ)) (κ := K (up c o, barI))
      (d := o) (by rw [duties_bar]; exact Finset.mem_erase.mpr ⟨ho, Finset.mem_univ _⟩)
      ((amount_bar xs (up c o) o).trans (by decide)) () (owe (sigT c) l R) rfl) $$ [HO Ht Hl]
  · isplitr; · iapply (inv_at xs K (up c o) barI _ rfl); iexact HR
    isplitl [HO]; · iexact HO
    isplitl [Ht]; · iexact Ht
    isplitl [Hl]; · rw [payload_bar]; iexact Hl
    iapply (reached_at xs K (up c o) barI _ rfl); iexact HR
  iintro HO
  iapply Hk
  isplitl [HO]
  · iexists W; iexact HO
  · iexact Hkept

/-- The exit signal to the device `o` places after `c`. -/
theorem step_signal2 {β : Type} {Q : β → sProp 𝕄} (ho : o ≠ 0) (dst : Dev nD) (hdst : dst.val = (c.val + o.val) % 8) (l : List (Fin 8)) (R : CT)
    {k : PUnit → Prog (TpuEff nD τ sig (Elt F) Λ₀ .tc) β} :
    iprop(records xs K ∗ owing c (owe (sig2T c) (o :: l) R) ∗ dutyTok ER (bar2C (up c o)) 0 o
        ∗ (owing c (owe (sig2T c) l R) -∗ wp frame (wpE (defs₀ (F := F)) 𝒱₀ c none) Set.univ (k ⟨⟩) Q))
      ⊢ wp frame (wpE (defs₀ (F := F)) 𝒱₀ c none) Set.univ (.op (.semSignal (dst : Thread nD τ) bar2S (1#32).toInt) k) Q := by
  obtain rfl : dst = up c o := Fin.ext hdst
  unfold owing
  iintro ⟨#HR, ⟨%W, HO⟩, Ht, Hk⟩
  iapply (Rounds.wp_signal 𝒱₀ ER (Rd xs) (c : Thread nD τ) none (dst := (up c o : Thread nD τ)) (κ := K (up c o, bar2I))
      (d := o) (by rw [duties_bar2]; exact Finset.mem_erase.mpr ⟨ho, Finset.mem_univ _⟩)
      ((amount_bar2 xs (up c o) o).trans (by decide)) () (owe (sig2T c) l R) rfl) $$ [HO Ht]
  · isplitr; · iapply (inv_at xs K (up c o) bar2I _ rfl); iexact HR
    isplitl [HO]; · iexact HO
    isplitl [Ht]; · iexact Ht
    isplitr; · rw [payload_bar2]; iempintro
    iapply (reached_at xs K (up c o) bar2I _ rfl); iexact HR
  iintro HO
  iapply Hk
  iexists W; iexact HO

/-- The entry wait: the places where `c`'s copies land, and the barrier's counter at zero for good. -/
theorem step_wait {β : Type} {Q : β → sProp 𝕄} {k : PUnit → Prog (TpuEff nD τ sig (Elt F) Λ₀ .tc) β} :
    iprop(records xs K ∗ levAts L lv ∗ owing c (O₁ c) ∗ cred (tallyAt (barC c) () 7) ∗ atPos ER (barC c) 0 ∅ 0
        ∗ (iprop(owing c (O₁ c) ∗ semVal (barC c) 0
              ∗ land (F := F) c 7 ∗ land (F := F) c 6 ∗ land (F := F) c 5 ∗ land (F := F) c 4 ∗ land (F := F) c 3 ∗ land (F := F) c 2
              ∗ land (F := F) c 1)
            -∗ wp frame (wpE (defs₀ (F := F)) 𝒱₀ c none) Set.univ (k ⟨⟩) Q))
      ⊢ wp frame (wpE (defs₀ (F := F)) 𝒱₀ c none) Set.univ (.op (.semWait barS (7#32).toInt) k) Q := by
  unfold owing
  iintro ⟨#HR, #Hlev, ⟨%W, HO⟩, Hc, Hat, Hk⟩
  iapply (Rounds.wp_wait_rest_token 𝒱₀ ER (Rd xs) (c : Thread nD τ) none (κ := K (c, barI))
      (wpE_semWait_eq 𝒱₀ (c : Thread nD τ) none Set.univ) (Set.mem_univ _) () (O := O₁ c) (W := W) (R := 0) (m := 0) (T := ∅)
      (k' := 7) (by rw [expect_bar])) $$ [Hc HO Hat]
  · isplitr; · iapply (inv_at xs K c barI _ rfl); iexact HR
    isplitl [Hc]; · iexact Hc
    isplitl [HO]; · iexact HO
    isplitr
    · iapply (mayWait_below (F := F) c (.reg barS) (O₁ c) 1 (by rw [kd_bar]; exact le_refl 1) fun g u h => ⟨(O₁_pos h).1, (O₁_pos h).2⟩)
      iexact Hlev
    iexact Hat
  iintro ⟨HO, Hat, -, Hpay⟩
  ihave Hp := (Entails.of_eq (rest_bar xs c)) $$ Hpay
  imod (Rounds.cell_close ER (Rd xs) (Set.mem_univ (K (c, barI))) (fun h => h) (R := 0 + 1) (duties_later xs (barC c))) $$ [Hat] with Hz
  · isplitr; · iapply (inv_at xs K c barI _ rfl); iexact HR
    iexact Hat
  iapply Hk
  isplitl [HO]
  · iexists _; iexact HO
  isplitl [Hz]; · iexact Hz
  iexact Hp

/-- The exit wait: the exit barrier's counter at zero for good. -/
theorem step_wait2 {β : Type} {Q : β → sProp 𝕄} {k : PUnit → Prog (TpuEff nD τ sig (Elt F) Λ₀ .tc) β} :
    iprop(records xs K ∗ owing c 0 ∗ cred (tallyAt (bar2C c) () 7) ∗ atPos ER (bar2C c) 0 ∅ 0
        ∗ (iprop(owing c 0 ∗ semVal (bar2C c) 0)
            -∗ wp frame (wpE (defs₀ (F := F)) 𝒱₀ c none) Set.univ (k ⟨⟩) Q))
      ⊢ wp frame (wpE (defs₀ (F := F)) 𝒱₀ c none) Set.univ (.op (.semWait bar2S (7#32).toInt) k) Q := by
  unfold owing
  iintro ⟨#HR, ⟨%W, HO⟩, Hc, Hat, Hk⟩
  iapply (Rounds.wp_wait_rest_token 𝒱₀ ER (Rd xs) (c : Thread nD τ) none (κ := K (c, bar2I))
      (wpE_semWait_eq 𝒱₀ (c : Thread nD τ) none Set.univ) (Set.mem_univ _) () (O := 0) (W := W) (R := 0) (m := 0) (T := ∅)
      (k' := 7) (by rw [expect_bar2])) $$ [Hc HO Hat]
  · isplitr; · iapply (inv_at xs K c bar2I _ rfl); iexact HR
    isplitl [Hc]; · iexact Hc
    isplitl [HO]; · iexact HO
    isplitr; · rw [MayWait_zero]; iempintro
    iexact Hat
  iintro ⟨HO, Hat, -, -⟩
  imod (Rounds.cell_close ER (Rd xs) (Set.mem_univ (K (c, bar2I))) (fun h => h) (R := 0 + 1) (duties_later xs (bar2C c))) $$ [Hat] with Hz
  · isplitr; · iapply (inv_at xs K c bar2I _ rfl); iexact HR
    iexact Hat
  iapply Hk
  isplitl [HO]
  · iexists _; iexact HO
  iexact Hz

/-- What a copy leaves in row `o` of the device `o` places after `c`: that device's expected row. -/
theorem landed (h : c.val + o.val < 8) (fd : BC F) :
    ((rowM o).view.loc (up c o : Thread nD τ) ↦[(rowM o).view.set]{fullShare}
        ((rowM o).view.write (Elt F) fd (sM.view.read (Elt F) (tot (xs c) : SC F)) Finset.univ) : sProp 𝕄)
      ⊢ rowPts (up c o) o (recvd xs (up c o)) := by
  unfold rowPts
  refine Entails.of_eq (pointsTo_congr fun i hi => ?_)
  obtain ⟨j, -, rfl⟩ := Finset.mem_map.mp hi
  rw [View.write_emb_of_mem _ _ (Finset.mem_univ j)]
  have h0 : ((rowM o).view.emb j) (0 : Fin 2) = o := Fin.ext (by
    show o.val + 1 * (j (0 : Fin 2)).val = o.val
    have : (j (0 : Fin 2)).val < 1 := (j (0 : Fin 2)).isLt
    omega)
  show (tot (xs c)) j = recvd xs (up c o) ((rowM o).view.emb j)
  unfold recvd
  rw [h0, dn_up]
  refine congrArg (tot (xs c)) (funext fun a => ?_)
  match a with
  | 0 => exact Fin.ext (by
      show (j (0 : Fin 2)).val = 0
      have : (j (0 : Fin 2)).val < 1 := (j (0 : Fin 2)).isLt
      omega)
  | 1 => exact Fin.ext (by
      show (j (1 : Fin 2)).val = 0 + 1 * (j (1 : Fin 2)).val
      omega)

/-- The guarded copy of the send row to the device `o` places after `c`. -/
theorem step_start {β : Type} {Q : β → sProp 𝕄} (ho : o ≠ 0) (l : List (Fin 8)) (R : CT) {C : Prop} [Decidable C] (hC : C ↔ c.val + o.val < 8)
    {A : C → Prog (TpuEff nD τ sig (Elt F) Λ₀ .tc) β} {B : Prog (TpuEff nD τ sig (Elt F) Λ₀ .tc) β}
    (hA : ∀ h : C, ∃ (dst : Dev nD) (_ : dst.val = (c.val + o.val) % 8) (hsc : _) (hsrc : _) (hdst : _) (hsem : _),
      A h = .op (.enqueueDma sM (.remote (dst : Thread nD τ) (rowM o) (.dma (sndS o)) hsc) (.dma (rcvS o)) hsrc hdst hsem) fun _ => B) :
    iprop(records xs K ∗ owing c (owe (rcvT c) (o :: l) R) ∗ dutyTok ER (sndC c o) 0 0 ∗ dutyTok ER (rcvC (up c o) o) 0 0
        ∗ land (F := F) c o ∗ srowPts xs c o
        ∗ (iprop(owing c (owe (rcvT c) l R) ∗ flight xs c o) -∗ wp frame (wpE (defs₀ (F := F)) 𝒱₀ c none) Set.univ B Q))
      ⊢ wp frame (wpE (defs₀ (F := F)) 𝒱₀ c none) Set.univ (dite C A fun _ => B) Q := by
  unfold owing
  by_cases h : C
  · rw [dif_pos h]
    obtain ⟨dst, hd, hsc, hsrc, hdst, hsem, e⟩ := hA h
    obtain rfl : dst = up c o := Fin.ext hd
    rw [e]
    have hlt := hC.mp h
    have hle : o.val ≤ (up c o).val := by rw [up_val c o hlt]; omega
    unfold land flight
    rw [if_pos hlt, if_pos hlt, show owe (rcvT c) (o :: l) R = owe (rcvT c) l R + tallyAt (rcvC (up c o) o) () N from
      congrArg (owe (rcvT c) l R + ·) (if_pos hlt)]
    iintro ⟨#HR, ⟨%W, HO⟩, HtS, HtV, ⟨%fd, Hl⟩, Hs, Hk⟩
    unfold rowPts
    ihave Hs' := (show srowPts xs c o ⊢ (sM.view.loc (c : Thread nD τ) ↦[sM.view.set]{ShareLeaves.leaf 3 fullShare o} (tot (xs c) : SC F) : sProp 𝕄) from BI.Entails.refl _) $$ Hs
    iapply (Rounds.wp_send_pointsTo 𝒱₀ ER (Rd xs) (c : Thread nD τ) none (κ₁ := K (c, sndI o)) (κ₂ := K (up c o, rcvI o))
      (r₁ := 0) (r₂ := 0) (d₁ := 0) (d₂ := 0) (fd := fd)
      (by rw [duties_snd xs c o ho hlt]; exact Finset.mem_singleton_self _)
      (by rw [duties_rcv xs (up c o) o ho hle]; exact Finset.mem_singleton_self _)
      () () N (show (rowM o).view.amount (.dma (rcvS o)) = N from N_row o) (amount_snd xs c o 0) (amount_rcv xs (up c o) o 0) (owe (rcvT c) l R) rfl (W := W)
      (by rw [payload_snd]; exact BI.Entails.refl _)
      (by rw [payload_rcv]; exact landed xs c o hlt fd)) $$ [Hs' Hl HO HtS HtV]
    · isplitr; · iapply (inv_at xs K c (sndI o) _ rfl); iexact HR
      isplitr; · iapply (inv_at xs K (up c o) (rcvI o) _ rfl); iexact HR
      isplitl [Hs']; · iexact Hs'
      isplitl [Hl]; · iexact Hl
      isplitl [HO]; · iexact HO
      isplitl [HtS]; · iexact HtS
      isplitr; · iapply (reached_at xs K c (sndI o) _ rfl); iexact HR
      isplitl [HtV]; · iexact HtV
      iapply (reached_at xs K (up c o) (rcvI o) _ rfl); iexact HR
    iintro ⟨Hc, HO⟩
    iapply Hk
    isplitl [HO]
    · iexists W; iexact HO
    · iexact Hc
  · rw [dif_neg h]
    have hlt : ¬ c.val + o.val < 8 := fun h' => h (hC.mpr h')
    unfold flight
    rw [if_neg hlt, show owe (rcvT c) (o :: l) R = owe (rcvT c) l R from
      (congrArg (owe (rcvT c) l R + ·) (if_neg hlt)).trans (add_zero _)]
    iintro ⟨-, HO, -, -, -, Hs, Hk⟩
    iapply Hk
    isplitl [HO]
    · iexact HO
    · iexact Hs

/-- The guarded wait for the row from the device `o` places before `c`. -/
theorem step_recv {β : Type} {Q : β → sProp 𝕄} (ho : o ≠ 0) (f : BC F) {C : Prop} [Decidable C] (hC : C ↔ o.val ≤ c.val)
    {A : C → Prog (TpuEff nD τ sig (Elt F) Λ₀ .tc) β} {B : Prog (TpuEff nD τ sig (Elt F) Λ₀ .tc) β}
    (hA : ∀ h : C, ∃ (hsrc : _) (hdst : _), A h = .op (.waitDma2 (rcvS o) sM (rowM o) hsrc hdst) fun _ => B) :
    iprop(records xs K ∗ levAts L lv ∗ owing c (O₂ c) ∗ rcvCred (F := F) c o ∗ atPos ER (rcvC c o) 0 ∅ 0 ∗ kept c o f
        ∗ (iprop(owing c (O₂ c) ∗ semVal (rcvC c o) 0 ∗ rowPts c o (if o.val ≤ c.val then recvd xs c else f))
            -∗ wp frame (wpE (defs₀ (F := F)) 𝒱₀ c none) Set.univ B Q))
      ⊢ wp frame (wpE (defs₀ (F := F)) 𝒱₀ c none) Set.univ (dite C A fun _ => B) Q := by
  unfold owing
  by_cases h : C
  · rw [dif_pos h]
    obtain ⟨hsrc, hdst, e⟩ := hA h
    rw [e]
    have hle := hC.mp h
    unfold rcvCred
    rw [if_pos ⟨ho, hle⟩, if_pos hle]
    iintro ⟨#HR, #Hlev, ⟨%W, HO⟩, Hc, Hat, -, Hk⟩
    iapply (Rounds.wp_wait_rest_token 𝒱₀ ER (Rd xs) (c : Thread nD τ) none (κ := K (c, rcvI o))
      (wpE_waitDma2_eq 𝒱₀ (c : Thread nD τ) none Set.univ) (Set.mem_univ _) () (O := O₂ c) (W := W) (R := 0) (m := 0) (T := ∅)
      (by rw [Nat.zero_add, expect_rcv xs c o ho hle])) $$ [Hc HO Hat]
    · isplitr; · iapply (inv_at xs K c (rcvI o) _ rfl); iexact HR
      isplitl [Hc]; · iexact Hc
      isplitl [HO]; · iexact HO
      isplitr
      · iapply (mayWait_below (F := F) c (.dma (rcvS o)) (O₂ c) 2 (by rw [kd_rcv]; exact Nat.le_refl 2) fun g u h => ⟨(O₂_pos h).1, by rw [(O₂_pos h).2]; decide⟩)
        iexact Hlev
      iexact Hat
    iintro ⟨HO, Hat, -, Hpay⟩
    ihave Hp := (Entails.of_eq (rest_rcv xs c o ho hle)) $$ Hpay
    imod (Rounds.cell_close ER (Rd xs) (Set.mem_univ (K (c, rcvI o))) (fun h => h) (R := 0 + 1) (duties_later xs (rcvC c o))) $$ [Hat] with Hz
    · isplitr; · iapply (inv_at xs K c (rcvI o) _ rfl); iexact HR
      iexact Hat
    iapply Hk
    isplitl [HO]
    · iexists _; iexact HO
    isplitl [Hz]; · iexact Hz
    iexact Hp
  · rw [dif_neg h]
    have hle : ¬ o.val ≤ c.val := fun h' => h (hC.mpr h')
    unfold kept
    rw [if_neg hle, if_neg hle]
    iintro ⟨#HR, -, HO, -, Hat, Hr, Hk⟩
    imod (Rounds.cell_close ER (Rd xs) (Set.mem_univ (K (c, rcvI o))) (fun h => h) (R := 0)
      (duties_never xs (rcvC c o) (duties_rcv_none xs c o fun h => hle h.2))) $$ [Hat] with Hz
    · isplitr; · iapply (inv_at xs K c (rcvI o) _ rfl); iexact HR
      iexact Hat
    iapply Hk
    isplitl [HO]; · iexact HO
    isplitl [Hz]; · iexact Hz
    iexact Hr

/-- The guarded wait for the copy to the device `o` places after `c`. -/
theorem step_sent {β : Type} {Q : β → sProp 𝕄} (ho : o ≠ 0) {C : Prop} [Decidable C] (hC : C ↔ c.val + o.val < 8)
    {A : C → Prog (TpuEff nD τ sig (Elt F) Λ₀ .tc) β} {B : Prog (TpuEff nD τ sig (Elt F) Λ₀ .tc) β}
    (hA : ∀ h : C, ∃ (hsrc : _) (hdst : _), A h = .op (.waitDma2 (sndS o) (rowM o) sM hsrc hdst) fun _ => B) :
    iprop(records xs K ∗ levAts L lv ∗ owing c (O₂ c) ∗ flight xs c o ∗ atPos ER (sndC c o) 0 ∅ 0
        ∗ (iprop(owing c (O₂ c) ∗ semVal (sndC c o) 0 ∗ srowPts xs c o)
            -∗ wp frame (wpE (defs₀ (F := F)) 𝒱₀ c none) Set.univ B Q))
      ⊢ wp frame (wpE (defs₀ (F := F)) 𝒱₀ c none) Set.univ (dite C A fun _ => B) Q := by
  unfold owing
  by_cases h : C
  · rw [dif_pos h]
    obtain ⟨hsrc, hdst, e⟩ := hA h
    rw [e]
    have hlt := hC.mp h
    unfold flight
    rw [if_pos hlt]
    iintro ⟨#HR, #Hlev, ⟨%W, HO⟩, Hc, Hat, Hk⟩
    iapply (Rounds.wp_wait_rest_token 𝒱₀ ER (Rd xs) (c : Thread nD τ) none (κ := K (c, sndI o))
      (wpE_waitDma2_eq 𝒱₀ (c : Thread nD τ) none Set.univ) (Set.mem_univ _) () (O := O₂ c) (W := W) (R := 0) (m := 0) (T := ∅)
      (by rw [Nat.zero_add, expect_snd xs c o ho hlt])) $$ [Hc HO Hat]
    · isplitr; · iapply (inv_at xs K c (sndI o) _ rfl); iexact HR
      isplitl [Hc]; · iexact Hc
      isplitl [HO]; · iexact HO
      isplitr
      · iapply (mayWait_below (F := F) c (.dma (sndS o)) (O₂ c) 2 (by rw [kd_snd]; exact Nat.zero_le 2) fun g u h => ⟨(O₂_pos h).1, by rw [(O₂_pos h).2]; decide⟩)
        iexact Hlev
      iexact Hat
    iintro ⟨HO, Hat, -, Hpay⟩
    ihave Hp := (Entails.of_eq (rest_snd xs c o ho hlt)) $$ Hpay
    imod (Rounds.cell_close ER (Rd xs) (Set.mem_univ (K (c, sndI o))) (fun h => h) (R := 0 + 1) (duties_later xs (sndC c o))) $$ [Hat] with Hz
    · isplitr; · iapply (inv_at xs K c (sndI o) _ rfl); iexact HR
      iexact Hat
    iapply Hk
    isplitl [HO]
    · iexists _; iexact HO
    isplitl [Hz]; · iexact Hz
    iexact Hp
  · rw [dif_neg h]
    have hlt : ¬ c.val + o.val < 8 := fun h' => h (hC.mpr h')
    unfold flight
    rw [if_neg hlt]
    iintro ⟨#HR, -, HO, Hs, Hat, Hk⟩
    imod (Rounds.cell_close ER (Rd xs) (Set.mem_univ (K (c, sndI o))) (fun h => h) (R := 0)
      (duties_never xs (sndC c o) (duties_snd_none xs c o fun h => hlt h.2))) $$ [Hat] with Hz
    · isplitr; · iapply (inv_at xs K c (sndI o) _ rfl); iexact HR
      iexact Hat
    iapply Hk
    isplitl [HO]; · iexact HO
    isplitl [Hz]; · iexact Hz
    iexact Hs

end Cert.KernelIdeal.Scan

end
-- ==== Proof.KernelIdeal.Mem.lean ====
module

public import proofs.«01_k».proof.Proof.KernelIdeal.Proto
public import Idealize.ShloMosaic.Lib.WritesUnit
public import Idealize.ShloMosaic.Lib.VecWindow

/-! The buffers of the kernel: the receive buffer as its eight rows, the send row as its eight shares, and the result's
buffer as the list of groups written to it. -/

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (xs : Dev nD → XC F) (c : Dev nD)

/-! ## Eight of a kind -/

omit [FloatOps F] in
/-- A family over the eight distances, written out. -/
theorem eight (P : Fin 8 → sProp 𝕄) :
    bigSep Finset.univ P = iprop(P 0 ∗ P 1 ∗ P 2 ∗ P 3 ∗ P 4 ∗ P 5 ∗ P 6 ∗ P 7) := by
  rw [bigSep_eq_bigSepL_of_eq [(0 : Fin 8), 1, 2, 3, 4, 5, 6, 7] (by decide) (by decide)]; rfl

/-! ## The receive buffer as rows -/

/-- Row `o` of the receive buffer holds the indices whose first coordinate is `o`. -/
theorem mem_row (o : Fin 8) (i : S8x1024.Idx) : i ∈ (rowM o).view.set ↔ i (0 : Fin 2) = o := by
  constructor
  · intro hi
    obtain ⟨j, -, rfl⟩ := Finset.mem_map.mp hi
    refine Fin.ext ?_
    show o.val + 1 * (j (0 : Fin 2)).val = o.val
    have : (j (0 : Fin 2)).val < 1 := (j (0 : Fin 2)).isLt
    omega
  · intro h
    refine Finset.mem_map.mpr ⟨fun a => match a with | 0 => ⟨0, by decide⟩ | 1 => i 1, Finset.mem_univ _, funext fun a => ?_⟩
    match a with
    | 0 => exact Fin.ext (by show o.val + 1 * 0 = (i (0 : Fin 2)).val; rw [h]; omega)
    | 1 => exact Fin.ext (by show 0 + 1 * (i (1 : Fin 2)).val = (i (1 : Fin 2)).val; omega)

theorem rows_cover : (Finset.univ.biUnion fun o : Fin 8 => (rowM o).view.set) = (Finset.univ : Finset S8x1024.Idx) :=
  Finset.eq_univ_iff_forall.mpr fun i => Finset.mem_biUnion.mpr ⟨i 0, Finset.mem_univ _, (mem_row _ i).mpr rfl⟩

theorem rows_disjoint (o : Fin 8) (_ : o ∈ Finset.univ) (o' : Fin 8) (_ : o' ∈ Finset.univ) (h : o ≠ o') :
    Disjoint (rowM o).view.set (rowM o').view.set :=
  Finset.disjoint_left.mpr fun i hi hi' => h (((mem_row o i).mp hi).symm.trans ((mem_row o' i).mp hi'))

omit [FloatOps F] in
/-- The receive buffer is its rows. -/
theorem rows_split (b : BC F) :
    (bM.view.loc (c : Thread nD τ) ↦{fullShare} b : sProp 𝕄) ⊢ bigSep Finset.univ fun o => rowPts c o b := by
  have e := pointsTo_biUnion (Ix := Unit) (U := UU) (Name := ℕ) (Lvl := ℕ) (ℓ := bM.view.loc (c : Thread nD τ)) (q := fullShare) (f := b) Finset.univ
    (fun o : Fin 8 => (rowM o).view.set) rows_disjoint
  rw [rows_cover] at e
  exact Entails.of_eq e

omit [FloatOps F] in
/-- Rows that hold what they hold are the receive buffer at contents that agree with each on its row. -/
theorem rows_join (fs : Fin 8 → BC F) :
    (bigSep Finset.univ fun o => rowPts c o (fs o))
      ⊢ (iprop(∃ g : BC F, ⌜∀ i : S8x1024.Idx, g i = fs (i 0) i⌝ ∗ (bM.view.loc (c : Thread nD τ) ↦{fullShare} g)) : sProp 𝕄) := by
  have e := pointsTo_biUnion_join (Ix := Unit) (U := UU) (Name := ℕ) (Lvl := ℕ) (ℓ := bM.view.loc (c : Thread nD τ)) (q := fullShare) Finset.univ
    (fun o : Fin 8 => (rowM o).view.set) fs (fs 0) rows_disjoint
  rw [rows_cover] at e
  refine BIBase.Entails.trans e ?_
  iintro ⟨%g, %hg, H⟩
  iexists g
  isplitr
  · ipureintro; exact fun i => hg (i 0) (Finset.mem_univ _) i ((mem_row _ i).mpr rfl)
  · iexact H

/-- Row `r` is read by the product exactly where it is one of rows `1` to `c`. -/
theorem mask_bit : ∀ c r : Fin 8, IntOp.andi (IntOp.cmpi .sge (BitVec.ofNat 32 r.val) 1#32) (IntOp.cmpi .sle (BitVec.ofNat 32 r.val) (me c))
    = if r.val ≠ 0 ∧ r.val ≤ c.val then 1#1 else 0#1 := by decide

/-- The eight rows with one in place of those that are not among rows `1` to `c`. -/
def masked (b : BC F) : FVec F S8x1024 .f32 := fun i =>
  if (i 0).val ≠ 0 ∧ (i 0).val ≤ c.val then b i else Scalar.ofBits .f32 0x3F800000#32

/-- The product of eight rows as the kernel takes it: the halves multiplied, three times. -/
def tree8 (v : FVec F S8x1024 .f32) : FVec F S1x1024 .f32 :=
  let u := mulf (extractStridedSlice S4x1024 ![0, 0] v slices_S8x1024_o0_0_S4x1024) (extractStridedSlice S4x1024 ![4, 0] v slices_S8x1024_o4_0_S4x1024)
  let t := mulf (extractStridedSlice S2x1024 ![0, 0] u slices_S4x1024_o0_0_S2x1024) (extractStridedSlice S2x1024 ![2, 0] u slices_S4x1024_o2_0_S2x1024)
  mulf (extractStridedSlice S1x1024 ![0, 0] t slices_S2x1024_o0_0_S1x1024) (extractStridedSlice S1x1024 ![1, 0] t slices_S2x1024_o1_0_S1x1024)

/-- The product of the received rows is that of the masked rows. -/
theorem pre_eq (b : BC F) : pre c b = tree8 (masked c b) := by
  refine congrArg tree8 (funext fun i => ?_)
  show Scalar.select (IntOp.andi (IntOp.cmpi .sge (BitVec.ofNat 32 (0 * 8 + (i 0).val)) 1#32) (IntOp.cmpi .sle (BitVec.ofNat 32 (0 * 8 + (i 0).val)) (me c)))
      (b (fun a => ⟨(![0, 0] : Fin 2 → ℕ) a + 1 * (i a).val, _⟩)) (Scalar.ofBits .f32 0x3F800000#32) = masked c b i
  rw [Nat.zero_mul, Nat.zero_add, mask_bit c (i 0)]
  have hi : (fun a => ⟨(![0, 0] : Fin 2 → ℕ) a + 1 * (i a).val, by
      have := (i a).isLt
      match a with
      | 0 => show 0 + 1 * (i 0).val < _; rwa [Nat.zero_add, Nat.one_mul]
      | 1 => show 0 + 1 * (i 1).val < _; rwa [Nat.zero_add, Nat.one_mul]⟩ : S8x1024.Idx) = i := by
    funext a
    match a with
    | 0 => exact Fin.ext (by show 0 + 1 * (i 0).val = (i 0).val; omega)
    | 1 => exact Fin.ext (by show 0 + 1 * (i 1).val = (i 1).val; omega)
  unfold masked
  split
  · exact congrArg b hi
  · rfl

/-- The product of the received rows reads rows `1` to `c` alone. -/
theorem pre_congr (b b' : BC F) (h : ∀ i : S8x1024.Idx, (i 0).val ≠ 0 → (i 0).val ≤ c.val → b i = b' i) : pre c b = pre c b' := by
  rw [pre_eq, pre_eq]
  refine congrArg tree8 (funext fun i => ?_)
  unfold masked
  split
  · rename_i hr; exact h i hr.1 hr.2
  · rfl

/-- The receive buffer after the waits: the received rows `1` to `c`, and the others as they were. -/
theorem rows_recvd (b : BC F) :
    iprop(rowPts c 0 b ∗ rowPts c 1 (if (1 : Fin 8).val ≤ c.val then recvd xs c else b) ∗ rowPts c 2 (if (2 : Fin 8).val ≤ c.val then recvd xs c else b)
        ∗ rowPts c 3 (if (3 : Fin 8).val ≤ c.val then recvd xs c else b) ∗ rowPts c 4 (if (4 : Fin 8).val ≤ c.val then recvd xs c else b)
        ∗ rowPts c 5 (if (5 : Fin 8).val ≤ c.val then recvd xs c else b) ∗ rowPts c 6 (if (6 : Fin 8).val ≤ c.val then recvd xs c else b)
        ∗ rowPts c 7 (if (7 : Fin 8).val ≤ c.val then recvd xs c else b))
      ⊢ (iprop(∃ g : BC F, ⌜pre c g = pre c (recvd xs c)⌝ ∗ (bM.view.loc (c : Thread nD τ) ↦{fullShare} g)) : sProp 𝕄) := by
  refine BIBase.Entails.trans ((Entails.of_eq (eight fun o => rowPts c o (if o.val = 0 then b else if o.val ≤ c.val then recvd xs c else b)).symm).trans (rows_join c _)) ?_
  iintro ⟨%g, %hg, H⟩
  iexists g
  isplitr
  · ipureintro
    refine pre_congr c g _ fun i h0 hle => ?_
    have e : ∀ r : Fin 8, r.val ≠ 0 → r.val ≤ c.val → (if r.val = 0 then b else if r.val ≤ c.val then recvd xs c else b) = recvd xs c :=
      fun r hr hc => by rw [if_neg hr, if_pos hc]
    exact (hg i).trans (congrFun (e (i 0) h0 hle) i)
  · iexact H

/-! ## The send row as shares -/

/-- The send row at the device's total is its eight shares. -/
theorem srow_shares :
    (sM.view.loc (c : Thread nD τ) ↦{fullShare} (tot (xs c) : SC F) : sProp 𝕄) = bigSep Finset.univ fun o => srowPts xs c o := by
  refine (ShareLeaves.pointsTo_leaves _ _ 3 fullShare).trans (bigSep_congr fun o _ => ?_)
  unfold srowPts
  rw [show sM.view.set = Finset.univ from View.set_whole _]

theorem srow_read (f : SC F) : sM.view.read (Elt F) f = f := rfl

/-- A whole store over the send row leaves what is stored. -/
theorem srow_stored (s : SC F) (w : FVec F S1x1024 .f32) (inb : ∀ a, (![0, 0] : Fin 2 → ℕ) a + S1x1024.size a ≤ S1x1024.size a) :
    sM.view.writes (Elt F) s [⟨Rect.unit (s := S1x1024) ![0, 0] S1x1024.size inb, w⟩] = w :=
  (srow_read _).symm.trans (View.read_writes_full sM.view s inb w [])

/-- The send row after the store of the device's total, as its eight shares. -/
theorem srow_sent (s : SC F) (w : FVec F S1x1024 .f32) (inb : ∀ a, (![0, 0] : Fin 2 → ℕ) a + S1x1024.size a ≤ S1x1024.size a) :
    iprop((sM.view.loc (c : Thread nD τ) ↦{fullShare} sM.view.writes (Elt F) s [⟨Rect.unit (s := S1x1024) ![0, 0] S1x1024.size inb, w⟩])
        ∗ ⌜w = tot (xs c)⌝)
      ⊢ (iprop(srowPts xs c 0 ∗ srowPts xs c 1 ∗ srowPts xs c 2 ∗ srowPts xs c 3 ∗ srowPts xs c 4 ∗ srowPts xs c 5 ∗ srowPts xs c 6
          ∗ srowPts xs c 7) : sProp 𝕄) := by
  rw [srow_stored]
  iintro ⟨H, %hw⟩
  subst hw
  iapply ((Entails.of_eq (srow_shares xs c)).trans (Entails.of_eq (eight _)))
  iexact H

/-! ## The result's buffer as groups -/

/-- Stores of `w g` over groups `lo` to `lo + n - 1`, the last one first. -/
def pcs (w : Fin 64 → FVec F S32x1024 .f32) (lo : ℕ) : (n : ℕ) → lo + n ≤ 64 → List (View.Piece (Elt F) S2048x1024 .f32)
  | 0, _ => []
  | n + 1, h => ⟨grp ⟨lo + n, h⟩, w ⟨lo + n, h⟩⟩ :: pcs w lo n (by omega)

/-- An index's group and its place in the group. -/
abbrev gOf (y : S2048x1024.Idx) : Fin 64 := ⟨(y 0).val / 32, row_lt y⟩
abbrev lOf (y : S2048x1024.Idx) : S32x1024.Idx := fun a => match a with | 0 => ⟨(y 0).val % 32, Nat.mod_lt _ (by decide)⟩ | 1 => y 1

/-- What an index reads after such stores. -/
theorem read_pcs (f : OC F) (w : Fin 64 → FVec F S32x1024 .f32) (lo : ℕ) (L : List (View.Piece (Elt F) S2048x1024 .f32)) (y : S2048x1024.Idx) :
    ∀ (n : ℕ) (h : lo + n ≤ 64), oM.view.read (Elt F) (oM.view.writes (Elt F) f (pcs w lo n h ++ L)) y
      = if lo ≤ (y 0).val / 32 ∧ (y 0).val / 32 < lo + n then w (gOf y) (lOf y) else oM.view.read (Elt F) (oM.view.writes (Elt F) f L) y
  | 0, h => by rw [if_neg (by omega)]; rfl
  | n + 1, h => by
    by_cases hg : (y 0).val / 32 = lo + n
    · rw [if_pos (by omega)]
      refine (View.read_writes_cons_rows_of_mem (d := S2048x1024.size) oM.view f (inbX ⟨lo + n, h⟩) (w ⟨lo + n, h⟩) (pcs w lo n (by omega) ++ L) y (lOf y) rfl ?_ rfl).trans ?_
      · show (y (0 : Fin 2)).val = 32 * (lo + n) + (y 0).val % 32
        omega
      · rw [show (⟨lo + n, h⟩ : Fin 64) = gOf y from Fin.ext hg.symm]
    · refine (View.read_writes_cons_rows_of_not_mem (d := S2048x1024.size) oM.view f (W := 32) (inbX ⟨lo + n, h⟩) (w ⟨lo + n, h⟩) (pcs w lo n (by omega) ++ L) y rfl rfl ?_).trans ?_
      · show (y (0 : Fin 2)).val < 32 * (lo + n) ∨ 32 * (lo + n) + 32 ≤ (y (0 : Fin 2)).val
        omega
      · rw [read_pcs f w lo L y n (by omega)]
        have : (lo ≤ (y 0).val / 32 ∧ (y 0).val / 32 < lo + n) ↔ (lo ≤ (y 0).val / 32 ∧ (y 0).val / 32 < lo + (n + 1)) := by omega
        simp only [this]

/-- What a whole group reads. -/
theorem readAt_grp (f : OC F) (g : Fin 64) (j : S32x1024.Idx) :
    View.readAt (Elt F) oM.view (grp g).toLoadRect f j = oM.view.read (Elt F) f ((grp g).emb j) := rfl

theorem gOf_emb (g : Fin 64) (j : S32x1024.Idx) : gOf ((grp g).emb j) = g := by
  refine Fin.ext ?_
  show (32 * g.val + 1 * (j (0 : Fin 2)).val) / 32 = g.val
  have : (j (0 : Fin 2)).val < 32 := (j (0 : Fin 2)).isLt
  omega
theorem lOf_emb (g : Fin 64) (j : S32x1024.Idx) : lOf ((grp g).emb j) = j := by
  funext a
  match a with
  | 0 =>
    refine Fin.ext ?_
    show (32 * g.val + 1 * (j (0 : Fin 2)).val) % 32 = (j (0 : Fin 2)).val
    have : (j (0 : Fin 2)).val < 32 := (j (0 : Fin 2)).isLt
    omega
  | 1 =>
    refine Fin.ext ?_
    show 0 + 1 * (j (1 : Fin 2)).val = (j (1 : Fin 2)).val
    omega

/-- The result's buffer after the first 26 groups, which read back as stored. -/
theorem out_first (x : XC F) (f : OC F) (L : List (View.Piece (Elt F) S2048x1024 .f32)) :
    iprop((oM.view.loc (c : Thread nD τ) ↦{fullShare} oM.view.writes (Elt F) f L) ∗ ⌜L = pcs (sc1 x) 0 26 (by decide)⌝)
      ⊢ (iprop(∃ f' : OC F, ⌜∀ g : Fin 64, g.val < 26 → View.readAt (Elt F) oM.view (grp g).toLoadRect f' = sc1 x g⌝
          ∗ (oM.view.loc (c : Thread nD τ) ↦{fullShare} f')) : sProp 𝕄) := by
  iintro ⟨H, %hL⟩
  iexists _
  isplitr
  · ipureintro
    swap; · exact oM.view.writes (Elt F) f L
    intro g hg
    funext j
    rw [readAt_grp, hL, ← List.append_nil (pcs (sc1 x) 0 26 _), read_pcs f (sc1 x) 0 [] _ 26 (by decide), gOf_emb, lOf_emb, if_pos]
    have := gOf_emb g j
    have h2 := congrArg Fin.val this
    have h3 : ((grp g).emb j 0).val / 32 = g.val := h2
    omega
  · iexact H

/-- The result's buffer after all groups: the first 26 groups multiplied again, the others as scanned. -/
theorem out_last (x : XC F) (p : FVec F S1x1024 .f32) (f : OC F) (hf : ∀ g : Fin 64, g.val < 26 → View.readAt (Elt F) oM.view (grp g).toLoadRect f = sc1 x g)
    (L : List (View.Piece (Elt F) S2048x1024 .f32)) :
    iprop((oM.view.loc (c : Thread nD τ) ↦{fullShare} oM.view.writes (Elt F) f L)
        ∗ ⌜L = pcs (fun g => k0_pay337 p (View.readAt (Elt F) oM.view (grp g).toLoadRect f)) 0 26 (by decide) ++ (pcs (sc2 x p) 26 38 (by decide) ++ [])⌝)
      ⊢ (oM.view.loc (c : Thread nD τ) ↦{fullShare} outC x p : sProp 𝕄) := by
  iintro ⟨H, %hL⟩
  have e : oM.view.writes (Elt F) f L = outC x p := by
    funext y
    refine (show oM.view.writes (Elt F) f L y = oM.view.read (Elt F) (oM.view.writes (Elt F) f L) y from rfl).trans ?_
    rw [hL, read_pcs, read_pcs]
    show _ = res x p (gOf y) (lOf y)
    unfold res
    have hy := row_lt y
    by_cases h : (y 0).val / 32 < 26
    · rw [if_pos (show 0 ≤ (y 0).val / 32 ∧ (y 0).val / 32 < 0 + 26 by omega), if_pos h, hf _ h]
    · rw [if_neg (by omega), if_pos (by omega), if_neg h]
  rw [e]
  iexact H

end Cert.KernelIdeal.Scan

end
-- ==== Proof.KernelIdeal.Body.lean ====
module

public import proofs.«01_k».proof.Proof.KernelIdeal.Steps
public import proofs.«01_k».proof.Proof.KernelIdeal.Mem
public import proofs.«01_k».proof.Proof.Gen.KernelIdeal.Skeleton
public import Idealize.ShloMosaic.Lib.Tactic

/-! The kernel's body on one device, run once at a symbolic device. -/

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (xs : Dev nD → XC F) (K : Dev nD × Fin 18 → ℕ) (c : Dev nD)

/-- What device `c` holds of the protocol when its body starts: its place in each of its cells, the tokens of its
duties, and the rights to wait. -/
def ghost : sProp 𝕄 :=
  iprop(atPos ER (barC c) 0 ∅ 0 ∗ atPos ER (bar2C c) 0 ∅ 0
    ∗ (bigSep Finset.univ fun o : Fin 8 => atPos ER (sndC c o) 0 ∅ 0) ∗ (bigSep Finset.univ fun o : Fin 8 => atPos ER (rcvC c o) 0 ∅ 0)
    ∗ (bigSep Finset.univ fun o : Fin 8 => dutyTok ER (barC (up c o)) 0 o) ∗ (bigSep Finset.univ fun o : Fin 8 => dutyTok ER (bar2C (up c o)) 0 o)
    ∗ (bigSep Finset.univ fun o : Fin 8 => dutyTok ER (sndC c o) 0 0) ∗ (bigSep Finset.univ fun o : Fin 8 => dutyTok ER (rcvC (up c o) o) 0 0)
    ∗ cred (tallyAt (barC c) () 7) ∗ cred (tallyAt (bar2C c) () 7) ∗ (bigSep Finset.univ fun o : Fin 8 => rcvCred (F := F) c o))

/-- Its semaphores when its body ends: all at zero. -/
def zeros : sProp 𝕄 :=
  iprop(semVal (barC c) 0 ∗ semVal (bar2C c) 0
    ∗ (bigSep Finset.univ fun o : Fin 8 => semVal (sndC c o) 0) ∗ (bigSep Finset.univ fun o : Fin 8 => semVal (rcvC c o) 0))

/-- A cell without duty closes at once. -/
theorem close_idle (k : Fin 18) (g : GSem nD τ sig) (hg : kcell (c, k) = g) (h : (Rd xs).duties g 0 = ∅) :
    iprop(records xs K ∗ atPos ER g 0 ∅ 0) ⊢ iprop(|={Set.univ}=> semVal g 0) := by
  iintro ⟨#HR, Hat⟩
  iapply (Rounds.cell_close ER (Rd xs) (Set.mem_univ (K (c, k))) (fun h => h) (R := 0) (duties_never xs g h)) $$ [Hat]
  isplitr; · iapply (inv_at xs K c k g hg); iexact HR
  iexact Hat

/-- What is given back at the end: the semaphores at zero, the result, the send row from its eight shares, the landing buffer. -/
theorem ending (g : BC F) (hg : pre c g = pre c (recvd xs c)) (Q : sProp 𝕄) :
    iprop(owing c 0 ∗ semVal (barC c) 0 ∗ semVal (bar2C c) 0
        ∗ (semVal (sndC c 0) 0 ∗ semVal (sndC c 1) 0 ∗ semVal (sndC c 2) 0 ∗ semVal (sndC c 3) 0 ∗ semVal (sndC c 4) 0 ∗ semVal (sndC c 5) 0 ∗ semVal (sndC c 6) 0 ∗ semVal (sndC c 7) 0)
        ∗ (semVal (rcvC c 0) 0 ∗ semVal (rcvC c 1) 0 ∗ semVal (rcvC c 2) 0 ∗ semVal (rcvC c 3) 0 ∗ semVal (rcvC c 4) 0 ∗ semVal (rcvC c 5) 0 ∗ semVal (rcvC c 6) 0 ∗ semVal (rcvC c 7) 0)
        ∗ (srowPts xs c 0 ∗ srowPts xs c 1 ∗ srowPts xs c 2 ∗ srowPts xs c 3 ∗ srowPts xs c 4 ∗ srowPts xs c 5 ∗ srowPts xs c 6 ∗ srowPts xs c 7)
        ∗ ((Memref.whole cc0_stg0_0).view.loc (c : Thread nD τ) ↦{fullShare} xs c)
        ∗ ((Memref.whole cc0_stg1_0).view.loc (c : Thread nD τ) ↦{fullShare} outC (xs c) (pre c g))
        ∗ ((Memref.whole cc0_scratch1).view.loc (c : Thread nD τ) ↦{fullShare} g)
        ∗ (iprop(owing c 0 ∗ zeros c
            ∗ ((Memref.whole cc0_stg0_0).view.loc (c : Thread nD τ) ↦{fullShare} xs c)
            ∗ ((Memref.whole cc0_stg1_0).view.loc (c : Thread nD τ) ↦{fullShare} outC (xs c) (pre c (recvd xs c)))
            ∗ (∃ s : SC F, (Memref.whole cc0_scratch0).view.loc (c : Thread nD τ) ↦{fullShare} s)
            ∗ (∃ b : BC F, (Memref.whole cc0_scratch1).view.loc (c : Thread nD τ) ↦{fullShare} b))
          -∗ Q))
      ⊢ Q := by
  rw [hg]; unfold zeros; rw [eight, eight]
  iintro ⟨HO, HzB, HzE, HzS, HzV, Hs, Hx, Ho, Hb, Hk⟩
  iapply Hk
  iframe HO HzB HzE HzS HzV Hx Ho
  isplitl [Hs]
  · iexists (tot (xs c))
    iapply ((Entails.of_eq (eight _).symm).trans (Entails.of_eq (srow_shares xs c).symm))
    iexact Hs
  · iexists g; iexact Hb

set_option maxHeartbeats 4000000 in
/-- The body. -/
theorem run_body (o0 : OC F) (s0 : SC F) (b0 : BC F) (Kt : PUnit → sProp 𝕄) :
    iprop(records xs K ∗ levAts L lv ∗ owing c (O₀ c) ∗ ghost c
        ∗ ((Memref.whole cc0_stg0_0).view.loc (c : Thread nD τ) ↦{fullShare} xs c)
        ∗ ((Memref.whole cc0_stg1_0).view.loc (c : Thread nD τ) ↦{fullShare} o0)
        ∗ ((Memref.whole cc0_scratch0).view.loc (c : Thread nD τ) ↦{fullShare} s0)
        ∗ ((Memref.whole cc0_scratch1).view.loc (c : Thread nD τ) ↦{fullShare} b0)
        ∗ (iprop(owing c 0 ∗ zeros c
            ∗ ((Memref.whole cc0_stg0_0).view.loc (c : Thread nD τ) ↦{fullShare} xs c)
            ∗ ((Memref.whole cc0_stg1_0).view.loc (c : Thread nD τ) ↦{fullShare} outC (xs c) (pre c (recvd xs c)))
            ∗ (∃ s : SC F, (Memref.whole cc0_scratch0).view.loc (c : Thread nD τ) ↦{fullShare} s)
            ∗ (∃ b : BC F, (Memref.whole cc0_scratch1).view.loc (c : Thread nD τ) ↦{fullShare} b))
          -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scoped0) Kt := by
  rw [cc0_body_eq_skeleton]; unfold cc0_body_skel ghost
  rw [eight, eight, eight, eight, eight, eight, eight]
  iintro ⟨#HR, #Hlev, HO, ⟨HaB, HaE, ⟨HaS0, HaS1, HaS2, HaS3, HaS4, HaS5, HaS6, HaS7⟩, ⟨HaV0, HaV1, HaV2, HaV3, HaV4, HaV5, HaV6, HaV7⟩,
    ⟨-, HtB1, HtB2, HtB3, HtB4, HtB5, HtB6, HtB7⟩, ⟨-, HtE1, HtE2, HtE3, HtE4, HtE5, HtE6, HtE7⟩,
    ⟨-, HtS1, HtS2, HtS3, HtS4, HtS5, HtS6, HtS7⟩, ⟨-, HtV1, HtV2, HtV3, HtV4, HtV5, HtV6, HtV7⟩,
    HcB, HcE, ⟨-, HcV1, HcV2, HcV3, HcV4, HcV5, HcV6, HcV7⟩⟩, Hx, Ho, Hs, Hb, Hk⟩
  imod (close_idle xs K c (sndI 0) _ rfl (duties_snd_none xs c 0 fun h => h.1 rfl)) $$ [$HR $HaS0] with HzS0
  imod (close_idle xs K c (rcvI 0) _ rfl (duties_rcv_none xs c 0 fun h => h.1 rfl)) $$ [$HR $HaV0] with HzV0
  ihave Hrows := ((rows_split c b0).trans (Entails.of_eq (eight _))) $$ Hb
  icases Hrows with ⟨Hb0, Hb1, Hb2, Hb3, Hb4, Hb5, Hb6, Hb7⟩
  unfold O₀
  -- the entry signals
  sl_exec
  iapply (step_signal xs K c 1 (by decide) _ (k0_dev1_eq c) [2, 3, 4, 5, 6, 7] (O₁ c) b0)
  iframe HR HO HtB1 Hb7
  iintro ⟨HO, Hb7⟩
  sl_exec
  iapply (step_signal xs K c 2 (by decide) _ (k0_dev2_eq c) [3, 4, 5, 6, 7] (O₁ c) b0)
  iframe HR HO HtB2 Hb6
  iintro ⟨HO, Hb6⟩
  sl_exec
  iapply (step_signal xs K c 3 (by decide) _ (k0_dev3_eq c) [4, 5, 6, 7] (O₁ c) b0)
  iframe HR HO HtB3 Hb5
  iintro ⟨HO, Hb5⟩
  sl_exec
  iapply (step_signal xs K c 4 (by decide) _ (k0_dev4_eq c) [5, 6, 7] (O₁ c) b0)
  iframe HR HO HtB4 Hb4
  iintro ⟨HO, Hb4⟩
  sl_exec
  iapply (step_signal xs K c 5 (by decide) _ (k0_dev5_eq c) [6, 7] (O₁ c) b0)
  iframe HR HO HtB5 Hb3
  iintro ⟨HO, Hb3⟩
  sl_exec
  iapply (step_signal xs K c 6 (by decide) _ (k0_dev6_eq c) [7] (O₁ c) b0)
  iframe HR HO HtB6 Hb2
  iintro ⟨HO, Hb2⟩
  sl_exec
  iapply (step_signal xs K c 7 (by decide) _ (k0_dev7_eq c) [] (O₁ c) b0)
  iframe HR HO HtB7 Hb1
  iintro ⟨HO, Hb1⟩
  -- the entry wait
  sl_exec
  iapply (step_wait xs K c)
  iframe HR Hlev HcB HaB
  isplitl [HO]; · iexact HO
  iintro ⟨HO, HzB, Hl7, Hl6, Hl5, Hl4, Hl3, Hl2, Hl1⟩
  -- the group totals, their running products and the send row
  sl_exec
  ihave Hs' := (srow_sent xs c s0 _ _) $$ [Hs]
  · isplitl [Hs]; · iexact Hs
    ipureintro; rfl
  icases Hs' with ⟨Hs0, Hs1, Hs2, Hs3, Hs4, Hs5, Hs6, Hs7⟩
  unfold O₁
  -- the copies
  iapply (step_start xs K c 1 (by decide) [2, 3, 4, 5, 6, 7] (O₂ c) (hC := ?_) (hA := ?_))
  · exact (by decide : ∀ c : Dev nD, k0_cond1 c = 1#1 ↔ c.val + 1 < 8) c
  · exact fun h => ⟨⟨k0_dev8 c, k0_dev8_lt c h⟩, k0_dev8_eq c, _, _, _, _, rfl⟩
  iframe HR HO HtS1 HtV1 Hl1 Hs1
  iintro ⟨HO, Hf1⟩
  sl_exec
  iapply (step_start xs K c 2 (by decide) [3, 4, 5, 6, 7] (O₂ c) (hC := ?_) (hA := ?_))
  · exact (by decide : ∀ c : Dev nD, k0_cond2 c = 1#1 ↔ c.val + 2 < 8) c
  · exact fun h => ⟨⟨k0_dev9 c, k0_dev9_lt c h⟩, k0_dev9_eq c, _, _, _, _, rfl⟩
  iframe HR HO HtS2 HtV2 Hl2 Hs2
  iintro ⟨HO, Hf2⟩
  sl_exec
  iapply (step_start xs K c 3 (by decide) [4, 5, 6, 7] (O₂ c) (hC := ?_) (hA := ?_))
  · exact (by decide : ∀ c : Dev nD, k0_cond3 c = 1#1 ↔ c.val + 3 < 8) c
  · exact fun h => ⟨⟨k0_dev10 c, k0_dev10_lt c h⟩, k0_dev10_eq c, _, _, _, _, rfl⟩
  iframe HR HO HtS3 HtV3 Hl3 Hs3
  iintro ⟨HO, Hf3⟩
  sl_exec
  iapply (step_start xs K c 4 (by decide) [5, 6, 7] (O₂ c) (hC := ?_) (hA := ?_))
  · exact (by decide : ∀ c : Dev nD, k0_cond4 c = 1#1 ↔ c.val + 4 < 8) c
  · exact fun h => ⟨⟨k0_dev11 c, k0_dev11_lt c h⟩, k0_dev11_eq c, _, _, _, _, rfl⟩
  iframe HR HO HtS4 HtV4 Hl4 Hs4
  iintro ⟨HO, Hf4⟩
  sl_exec
  iapply (step_start xs K c 5 (by decide) [6, 7] (O₂ c) (hC := ?_) (hA := ?_))
  · exact (by decide : ∀ c : Dev nD, k0_cond5 c = 1#1 ↔ c.val + 5 < 8) c
  · exact fun h => ⟨⟨k0_dev12 c, k0_dev12_lt c h⟩, k0_dev12_eq c, _, _, _, _, rfl⟩
  iframe HR HO HtS5 HtV5 Hl5 Hs5
  iintro ⟨HO, Hf5⟩
  sl_exec
  iapply (step_start xs K c 6 (by decide) [7] (O₂ c) (hC := ?_) (hA := ?_))
  · exact (by decide : ∀ c : Dev nD, k0_cond6 c = 1#1 ↔ c.val + 6 < 8) c
  · exact fun h => ⟨⟨k0_dev13 c, k0_dev13_lt c h⟩, k0_dev13_eq c, _, _, _, _, rfl⟩
  iframe HR HO HtS6 HtV6 Hl6 Hs6
  iintro ⟨HO, Hf6⟩
  sl_exec
  iapply (step_start xs K c 7 (by decide) [] (O₂ c) (hC := ?_) (hA := ?_))
  · exact (by decide : ∀ c : Dev nD, k0_cond7 c = 1#1 ↔ c.val + 7 < 8) c
  · exact fun h => ⟨⟨k0_dev14 c, k0_dev14_lt c h⟩, k0_dev14_eq c, _, _, _, _, rfl⟩
  iframe HR HO HtS7 HtV7 Hl7 Hs7
  iintro ⟨HO, Hf7⟩
  sl_exec
  -- the received rows
  ihave Ho' := (out_first c (xs c) o0 _) $$ [Ho]
  · isplitl [Ho]; · iexact Ho
    ipureintro; rfl
  icases Ho' with ⟨%f1, %hf1, Ho⟩
  iapply (step_recv xs K c 1 (by decide) b0 (hC := ?_) (hA := ?_))
  · exact (by decide : ∀ c : Dev nD, Scalar.cmpi .ne (Scalar.extui (Scalar.cmpi .sge (me c) 1#32)) 0#32 = 1#1 ↔ 1 ≤ c.val) c
  · exact fun h => ⟨_, _, rfl⟩
  iframe HR Hlev HcV1 HaV1
  isplitl [HO]; · iexact HO
  isplitl [Hb1]; · iexact Hb1
  iintro ⟨HO, HzV1, Hb1⟩
  sl_exec
  iapply (step_recv xs K c 2 (by decide) b0 (hC := ?_) (hA := ?_))
  · exact (by decide : ∀ c : Dev nD, Scalar.cmpi .ne (Scalar.extui (Scalar.cmpi .sge (me c) 2#32)) 0#32 = 1#1 ↔ 2 ≤ c.val) c
  · exact fun h => ⟨_, _, rfl⟩
  iframe HR Hlev HcV2 HaV2
  isplitl [HO]; · iexact HO
  isplitl [Hb2]; · iexact Hb2
  iintro ⟨HO, HzV2, Hb2⟩
  sl_exec
  iapply (step_recv xs K c 3 (by decide) b0 (hC := ?_) (hA := ?_))
  · exact (by decide : ∀ c : Dev nD, Scalar.cmpi .ne (Scalar.extui (Scalar.cmpi .sge (me c) 3#32)) 0#32 = 1#1 ↔ 3 ≤ c.val) c
  · exact fun h => ⟨_, _, rfl⟩
  iframe HR Hlev HcV3 HaV3
  isplitl [HO]; · iexact HO
  isplitl [Hb3]; · iexact Hb3
  iintro ⟨HO, HzV3, Hb3⟩
  sl_exec
  iapply (step_recv xs K c 4 (by decide) b0 (hC := ?_) (hA := ?_))
  · exact (by decide : ∀ c : Dev nD, Scalar.cmpi .ne (Scalar.extui (Scalar.cmpi .sge (me c) 4#32)) 0#32 = 1#1 ↔ 4 ≤ c.val) c
  · exact fun h => ⟨_, _, rfl⟩
  iframe HR Hlev HcV4 HaV4
  isplitl [HO]; · iexact HO
  isplitl [Hb4]; · iexact Hb4
  iintro ⟨HO, HzV4, Hb4⟩
  sl_exec
  iapply (step_recv xs K c 5 (by decide) b0 (hC := ?_) (hA := ?_))
  · exact (by decide : ∀ c : Dev nD, Scalar.cmpi .ne (Scalar.extui (Scalar.cmpi .sge (me c) 5#32)) 0#32 = 1#1 ↔ 5 ≤ c.val) c
  · exact fun h => ⟨_, _, rfl⟩
  iframe HR Hlev HcV5 HaV5
  isplitl [HO]; · iexact HO
  isplitl [Hb5]; · iexact Hb5
  iintro ⟨HO, HzV5, Hb5⟩
  sl_exec
  iapply (step_recv xs K c 6 (by decide) b0 (hC := ?_) (hA := ?_))
  · exact (by decide : ∀ c : Dev nD, Scalar.cmpi .ne (Scalar.extui (Scalar.cmpi .sge (me c) 6#32)) 0#32 = 1#1 ↔ 6 ≤ c.val) c
  · exact fun h => ⟨_, _, rfl⟩
  iframe HR Hlev HcV6 HaV6
  isplitl [HO]; · iexact HO
  isplitl [Hb6]; · iexact Hb6
  iintro ⟨HO, HzV6, Hb6⟩
  sl_exec
  iapply (step_recv xs K c 7 (by decide) b0 (hC := ?_) (hA := ?_))
  · exact (by decide : ∀ c : Dev nD, Scalar.cmpi .ne (Scalar.extui (Scalar.cmpi .sge (me c) 7#32)) 0#32 = 1#1 ↔ 7 ≤ c.val) c
  · exact fun h => ⟨_, _, rfl⟩
  iframe HR Hlev HcV7 HaV7
  isplitl [HO]; · iexact HO
  isplitl [Hb7]; · iexact Hb7
  iintro ⟨HO, HzV7, Hb7⟩
  ihave Hb := (rows_recvd xs c b0) $$ [$Hb0 $Hb1 $Hb2 $Hb3 $Hb4 $Hb5 $Hb6 $Hb7]
  icases Hb with ⟨%g, %hg, Hb⟩
  sl_exec
  -- the result
  ihave Ho' := (out_last c (xs c) (pre c g) f1 hf1 _) $$ [Ho]
  · isplitl [Ho]; · iexact Ho
    ipureintro; rfl
  -- the sent rows
  iapply (step_sent xs K c 1 (by decide) (hC := ?_) (hA := ?_))
  · exact (by decide : ∀ c : Dev nD, Scalar.cmpi .ne (Scalar.extui (Scalar.cmpi .slt (Scalar.addi (me c) 1#32) 8#32)) 0#32 = 1#1 ↔ c.val + 1 < 8) c
  · exact fun h => ⟨_, _, rfl⟩
  iframe HR Hlev HO Hf1 HaS1
  iintro ⟨HO, HzS1, Hs1⟩
  sl_exec
  iapply (step_sent xs K c 2 (by decide) (hC := ?_) (hA := ?_))
  · exact (by decide : ∀ c : Dev nD, Scalar.cmpi .ne (Scalar.extui (Scalar.cmpi .slt (Scalar.addi (me c) 2#32) 8#32)) 0#32 = 1#1 ↔ c.val + 2 < 8) c
  · exact fun h => ⟨_, _, rfl⟩
  iframe HR Hlev HO Hf2 HaS2
  iintro ⟨HO, HzS2, Hs2⟩
  sl_exec
  iapply (step_sent xs K c 3 (by decide) (hC := ?_) (hA := ?_))
  · exact (by decide : ∀ c : Dev nD, Scalar.cmpi .ne (Scalar.extui (Scalar.cmpi .slt (Scalar.addi (me c) 3#32) 8#32)) 0#32 = 1#1 ↔ c.val + 3 < 8) c
  · exact fun h => ⟨_, _, rfl⟩
  iframe HR Hlev HO Hf3 HaS3
  iintro ⟨HO, HzS3, Hs3⟩
  sl_exec
  iapply (step_sent xs K c 4 (by decide) (hC := ?_) (hA := ?_))
  · exact (by decide : ∀ c : Dev nD, Scalar.cmpi .ne (Scalar.extui (Scalar.cmpi .slt (Scalar.addi (me c) 4#32) 8#32)) 0#32 = 1#1 ↔ c.val + 4 < 8) c
  · exact fun h => ⟨_, _, rfl⟩
  iframe HR Hlev HO Hf4 HaS4
  iintro ⟨HO, HzS4, Hs4⟩
  sl_exec
  iapply (step_sent xs K c 5 (by decide) (hC := ?_) (hA := ?_))
  · exact (by decide : ∀ c : Dev nD, Scalar.cmpi .ne (Scalar.extui (Scalar.cmpi .slt (Scalar.addi (me c) 5#32) 8#32)) 0#32 = 1#1 ↔ c.val + 5 < 8) c
  · exact fun h => ⟨_, _, rfl⟩
  iframe HR Hlev HO Hf5 HaS5
  iintro ⟨HO, HzS5, Hs5⟩
  sl_exec
  iapply (step_sent xs K c 6 (by decide) (hC := ?_) (hA := ?_))
  · exact (by decide : ∀ c : Dev nD, Scalar.cmpi .ne (Scalar.extui (Scalar.cmpi .slt (Scalar.addi (me c) 6#32) 8#32)) 0#32 = 1#1 ↔ c.val + 6 < 8) c
  · exact fun h => ⟨_, _, rfl⟩
  iframe HR Hlev HO Hf6 HaS6
  iintro ⟨HO, HzS6, Hs6⟩
  sl_exec
  iapply (step_sent xs K c 7 (by decide) (hC := ?_) (hA := ?_))
  · exact (by decide : ∀ c : Dev nD, Scalar.cmpi .ne (Scalar.extui (Scalar.cmpi .slt (Scalar.addi (me c) 7#32) 8#32)) 0#32 = 1#1 ↔ c.val + 7 < 8) c
  · exact fun h => ⟨_, _, rfl⟩
  iframe HR Hlev HO Hf7 HaS7
  iintro ⟨HO, HzS7, Hs7⟩
  sl_exec
  -- the exit barrier
  unfold O₂
  iapply (step_signal2 xs K c 1 (by decide) _ (k0_dev15_eq c) [2, 3, 4, 5, 6, 7] 0)
  iframe HR HO HtE1
  iintro HO
  sl_exec
  iapply (step_signal2 xs K c 2 (by decide) _ (k0_dev16_eq c) [3, 4, 5, 6, 7] 0)
  iframe HR HO HtE2
  iintro HO
  sl_exec
  iapply (step_signal2 xs K c 3 (by decide) _ (k0_dev17_eq c) [4, 5, 6, 7] 0)
  iframe HR HO HtE3
  iintro HO
  sl_exec
  iapply (step_signal2 xs K c 4 (by decide) _ (k0_dev18_eq c) [5, 6, 7] 0)
  iframe HR HO HtE4
  iintro HO
  sl_exec
  iapply (step_signal2 xs K c 5 (by decide) _ (k0_dev19_eq c) [6, 7] 0)
  iframe HR HO HtE5
  iintro HO
  sl_exec
  iapply (step_signal2 xs K c 6 (by decide) _ (k0_dev20_eq c) [7] 0)
  iframe HR HO HtE6
  iintro HO
  sl_exec
  iapply (step_signal2 xs K c 7 (by decide) _ (k0_dev21_eq c) [] 0)
  iframe HR HO HtE7
  iintro HO
  sl_exec
  iapply (step_wait2 xs K c)
  iframe HR HcE HaE
  isplitl [HO]; · iexact HO
  iintro ⟨HO, HzE⟩
  sl_exec
  rw [wp_ret]; imodintro
  iapply (ending xs c g hg)
  iframe HO HzB HzE Hx Ho' Hb Hk
  isplitl [HzS0 HzS1 HzS2 HzS3 HzS4 HzS5 HzS6 HzS7]
  · isplitl [HzS0]; · iexact HzS0
    iframe HzS1 HzS2 HzS3 HzS4 HzS5 HzS6 HzS7
  isplitl [HzV0 HzV1 HzV2 HzV3 HzV4 HzV5 HzV6 HzV7]
  · isplitl [HzV0]; · iexact HzV0
    iframe HzV1 HzV2 HzV3 HzV4 HzV5 HzV6 HzV7
  iframe Hs0 Hs1 Hs2 Hs3 Hs4 Hs5 Hs6 Hs7

end Cert.KernelIdeal.Scan

end
-- ==== Proof.KernelIdeal.Launch.lean ====
module

public import proofs.«01_k».proof.Proof.KernelIdeal.Body
public import Idealize.ShloMosaic.Lib.Pipeline.CollectiveSegs

/-! The launch of the eight devices: what each of them starts from, and the run of the program. From any memory with all
semaphores at zero every execution ends, the input unchanged, each result block as computed from the blocks of the
input, and all semaphores at zero. -/

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: all semaphores at zero. -/
abbrev s₀ : MemSt nD τ sig (Elt F) := ⟨m, fun _ => 0, ρ⟩

/-- The block of the input that device `c` stages. -/
def xin (c : Dev nD) : XC F := (win0_0.blk (0 : Fin 1)).view.read (Elt F) (m ((c : Thread nD τ).loc main_arg0))
/-- The block of the result that device `c` computes. -/
def yout (c : Dev nD) : OC F := outC (xin m c) (pre c (recvd (xin m) c))

/-- The semaphores that the kernel itself allocates: all of the protocol but the entry barrier. -/
abbrev osem (k : Fin 17) : SemLoc sig := csem k.succ

/-! ## The pipeline's data -/

/-- What device `c`'s body starts from. -/
def start (c : Dev nD) : sProp 𝕄 :=
  iprop((∃ K, records (xin m) K) ∗ levAts L lv ∗ ghost (F := F) c)

def Φ₀ (c : Dev nD) : sProp 𝕄 :=
  iprop(start m c ∗ (∃ s : SC F, ((c : Thread nD τ).loc cc0_scratch0) ↦{fullShare} s) ∗ (∃ b : BC F, ((c : Thread nD τ).loc cc0_scratch1) ↦{fullShare} b))
def Φ₁ (c : Dev nD) : sProp 𝕄 :=
  iprop(zeros (F := F) c ∗ (∃ s : SC F, ((c : Thread nD τ).loc cc0_scratch0) ↦{fullShare} s) ∗ (∃ b : BC F, ((c : Thread nD τ).loc cc0_scratch1) ↦{fullShare} b))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => yout m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xin m c) ∗ stg c cc0_stg1_0 (yout m c))

set_option maxRecDepth 4000 in
/-- The body takes what the pipeline hands it to what the pipeline expects back. -/
theorem body_ok (c : Dev nD) (Kt : PUnit → sProp 𝕄) (hK : bodyPost m ρ c ⊢ Kt ⟨⟩) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scoped0) Kt := by
  unfold bodyPre Φ₀ start
  iintro ⟨⟨⟨⟨%K, #HR⟩, #Hlev, Hg⟩, ⟨%s0, Hs⟩, ⟨%b0, Hb⟩⟩, Ho, ⟨%d0, %g0, %hg0, Hx⟩, ⟨%d1, %g1, %hg1, Hout⟩⟩
  have hx : g0 = xin m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply (run_body (xin m) K c g1 s0 b0 Kt)
  isplitr; · iexact HR
  isplitr; · iexact Hlev
  isplitl [HO]; · unfold owing; iexists W; iexact HO
  isplitl [Hg]; · iexact Hg
  isplitl [Hx]; · iexact Hx
  isplitl [Hout]; · iexact Hout
  isplitl [Hs]; · iexact Hs
  isplitl [Hb]; · iexact Hb
  iintro ⟨HO, Hz, Hx, Hout, Hs, Hb⟩
  iapply hK
  unfold bodyPost Φ₁ Dat.owesAt Pipeline.owesWithin owing
  rw [show (dats m ρ 0 c).owed t0_0.succ = 0 from rfl]
  isplitl [Hz Hs Hb]
  · isplitl [Hz]; · iexact Hz
    isplitl [Hs]; · iexact Hs
    iexact Hb
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxHeartbeats 2000000 in
set_option maxRecDepth 4000 in
/-- The obligation of the pipeline's one point. -/
theorem body_obligation (c : Dev nD) : BodyObligation (dats (F := F) m ρ 0 c) (defs₀ (F := F)) 𝒱₀ () Set.univ := fun t => by
  rw [fin_N0 t, bigSep_W0, bigSep_W0]
  simp only [owns_whole]
  exact body_ok m ρ c (fun _ => bodyPost m ρ c) (Entails.refl _)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 18 → GSem nD τ sig) := by
  rintro ⟨c, k⟩ ⟨c', k'⟩ h
  have h1 : c = c' := congrArg (fun g : GSem nD τ sig => g.1.1) h
  have h2 : csem k = csem k' := congrArg Prod.snd h
  have h3 : ∀ k k' : Fin 18, csem k = csem k' → k = k' := by decide
  rw [h1, h3 k k' h2]
def theCells : Finset (GSem nD τ sig) := Finset.univ.map ⟨kcell, kcell_injective⟩

theorem sep_right {M : Type} [URA M] (P Q R : sProp M) : Idealize.SL.BI.sep (Idealize.SL.BI.sep P Q) R = Idealize.SL.BI.sep P (Idealize.SL.BI.sep Q R) :=
  equiv_iff.mp ⟨BI.sep_assoc, BI.sep_assoc'⟩

/-- The eighteen cells by their use. -/
theorem eighteen {M : Type} [URA M] (P : Fin 18 → sProp M) :
    bigSep Finset.univ P = iprop(P barI ∗ P bar2I ∗ (bigSep Finset.univ fun o : Fin 8 => P (sndI o)) ∗ bigSep Finset.univ fun o : Fin 8 => P (rcvI o)) := by
  rw [bigSep_univ_eq_bigSepL [(0 : Fin 18), 1, 2, 3, 4, 5, 6, 7, 8, 9, 10, 11, 12, 13, 14, 15, 16, 17] (by decide) (by decide),
    bigSep_univ_eq_bigSepL [(0 : Fin 8), 1, 2, 3, 4, 5, 6, 7] (by decide) (by decide) (fun o : Fin 8 => P (sndI o)),
    bigSep_univ_eq_bigSepL [(0 : Fin 8), 1, 2, 3, 4, 5, 6, 7] (by decide) (by decide) (fun o : Fin 8 => P (rcvI o))]
  simp only [bigSepL]
  change Idealize.SL.BI.sep _ (Idealize.SL.BI.sep _ _) = Idealize.SL.BI.sep _ (Idealize.SL.BI.sep _ (Idealize.SL.BI.sep _ _))
  simp only [sep_right]
  rfl

/-- The duty tokens of a device's cells, numbered: for each distance one of the entry barrier, of the exit barrier, of
the send cell and of the receive cell. -/
def tokOf (x : Dev nD × Fin 4 × Fin 8) : GSem nD τ sig × ℕ × Fin 8 := match x.2.1 with
  | 0 => (barC x.1, 0, x.2.2) | 1 => (bar2C x.1, 0, x.2.2) | 2 => (sndC x.1 x.2.2, 0, 0) | 3 => (rcvC x.1 x.2.2, 0, 0)
theorem tokOf_injective : Function.Injective tokOf := by
  rintro ⟨c, j, o⟩ ⟨c', j', o'⟩ h
  have h1 : c = c' := by
    have := congrArg (fun x : GSem nD τ sig × ℕ × Fin 8 => x.1.1.1) h
    fin_cases j <;> fin_cases j' <;> exact this
  have h2 : ∀ (j : Fin 4) (o : Fin 8) (j' : Fin 4) (o' : Fin 8),
      ((tokOf (0, j, o)).1.2, (tokOf (0, j, o)).2.2) = ((tokOf (0, j', o')).1.2, (tokOf (0, j', o')).2.2) → (j, o) = (j', o') := by decide
  have h3 := h2 j o j' o' (by
    have := congrArg (fun x : GSem nD τ sig × ℕ × Fin 8 => (x.1.2, x.2.2)) h
    fin_cases j <;> fin_cases j' <;> exact this)
  rw [h1, h3]
def theToks : Finset (GSem nD τ sig × ℕ × Fin 8) := Finset.univ.map ⟨tokOf, tokOf_injective⟩

def u₀ : UU :=
  (initOf (Pipeline.cells cfgs cellOf_inj) (Pipeline.launchToks cfgs cellOf_inj), initOf theCells theToks)

/-- The duty tokens of device `c`'s own cells. -/
def toks (c : Dev nD) : sProp 𝕄 :=
  iprop((bigSep Finset.univ fun o : Fin 8 => dutyTok ER (barC c) 0 o) ∗ (bigSep Finset.univ fun o : Fin 8 => dutyTok ER (bar2C c) 0 o)
    ∗ (bigSep Finset.univ fun o : Fin 8 => dutyTok ER (sndC c o) 0 0) ∗ (bigSep Finset.univ fun o : Fin 8 => dutyTok ER (rcvC c o) 0 0))

/-- What the launch deals device `c`. -/
def G (c : Dev nD) : sProp 𝕄 :=
  iprop((bigSep Finset.univ fun k : Fin 18 => roundState ER (Rd (xin m)) (kcell (c, k)) 0)
    ∗ (bigSep Finset.univ fun k : Fin 18 => iprop(atPos ER (kcell (c, k)) 0 ∅ 0 ∗ reached ER (kcell (c, k)) 0)) ∗ toks c)

/-- What stays with device `c`: its places in its cells, and the tokens of the duties that it pays. -/
def linear (c : Dev nD) : sProp 𝕄 :=
  iprop((bigSep Finset.univ fun k : Fin 18 => atPos ER (kcell (c, k)) 0 ∅ 0)
    ∗ (bigSep Finset.univ fun o : Fin 8 => dutyTok ER (barC (up c o)) 0 o) ∗ (bigSep Finset.univ fun o : Fin 8 => dutyTok ER (bar2C (up c o)) 0 o)
    ∗ (bigSep Finset.univ fun o : Fin 8 => dutyTok ER (sndC c o) 0 0) ∗ (bigSep Finset.univ fun o : Fin 8 => dutyTok ER (rcvC (up c o) o) 0 0))

/-- What the global step makes of it. -/
def G' (c : Dev nD) : sProp 𝕄 := iprop((∃ K, records (xin m) K) ∗ linear (F := F) c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_scan : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 18 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_prod, bigSep_fin4]; rfl
  iintro HX
  imod (Rounds.fund ER (Rd (xin m)) theCells theToks) $$ HX with ⟨Hst, Hr, Hat, Htok⟩
  imodintro
  ihave Hst' := (Entails.of_eq (hX fun g => roundState ER (Rd (xin m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The runtime's barrier is the one semaphore that is not the kernel's own. -/
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
/-- All eighteen at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 18 => semVal (kcell (c, k)) 0 : sProp 𝕄) := by
  rw [unscopedSems0_eq, Pipeline.ownSems0_eq_of_list c osem [0, 1, 2, 3, 4, 5, 6, 7, 8, 9, 10, 11, 12, 13, 14, 15, 16] (by decide) (by decide),
    bigSep_univ_eq_bigSepL [(0 : Fin 18), 1, 2, 3, 4, 5, 6, 7, 8, 9, 10, 11, 12, 13, 14, 15, 16, 17] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (xin m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 18 => semVal (kcell (c, k)) 0) ∗ bigSep Finset.univ fun k : Fin 18 => roundState ER (Rd (xin m)) (kcell (c, k)) 0)
      ⊢ (|={Set.univ}=> bigSep Finset.univ fun k => iprop(∃ κ : ℕ, cellInv ER (Rd (xin m)) κ (kcell (c, k))) : sProp 𝕄) from by
        rw [← bigSep_sep']
        exact (bigSep_mono fun k _ => (Rounds.body_intro ER (Rd (xin m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Moving each cell of distance `o` by `o` places. -/
def shift : Dev nD × Fin 8 ≃ Dev nD × Fin 8 := ⟨fun x => (up x.1 x.2, x.2), fun x => (dn x.1 x.2, x.2),
  fun x => Prod.ext (dn_up x.1 x.2) rfl, fun x => Prod.ext (up_dn x.1 x.2) rfl⟩
omit [FloatOps F] in
theorem shifted (P : Dev nD → Fin 8 → sProp 𝕄) :
    (bigSep Finset.univ fun c => bigSep Finset.univ fun o => P c o) = bigSep Finset.univ fun c => bigSep Finset.univ fun o => P (up c o) o := by
  rw [← bigSep_univ_prod (fun x : Dev nD × Fin 8 => P x.1 x.2), ← bigSep_univ_prod (fun x : Dev nD × Fin 8 => P (up x.1 x.2) x.2)]
  exact bigSep_univ_equiv shift _

omit [FloatOps F] in
/-- The tokens dealt to the devices that pay them. -/
theorem toks_dealt : (bigSep Finset.univ fun c : Dev nD => (toks c : sProp 𝕄))
    ⊢ bigSep Finset.univ fun c : Dev nD => iprop((bigSep Finset.univ fun o : Fin 8 => dutyTok ER (barC (up c o)) 0 o)
      ∗ (bigSep Finset.univ fun o : Fin 8 => dutyTok ER (bar2C (up c o)) 0 o)
      ∗ (bigSep Finset.univ fun o : Fin 8 => dutyTok ER (sndC c o) 0 0) ∗ (bigSep Finset.univ fun o : Fin 8 => dutyTok ER (rcvC (up c o) o) 0 0)) := by
  unfold toks
  rw [bigSep_sep', bigSep_sep', bigSep_sep', bigSep_sep', bigSep_sep', bigSep_sep',
    shifted (fun c o => (dutyTok ER (barC c) 0 o : sProp 𝕄)), shifted (fun c o => (dutyTok ER (bar2C c) 0 o : sProp 𝕄)),
    shifted (fun c o => (dutyTok ER (rcvC c o) 0 0 : sProp 𝕄))]

/-- Something persistent may be given to every member. -/
theorem bigSep_give {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem regroup :
    (bigSep Finset.univ fun c : Dev nD => iprop((bigSep Finset.univ fun k => iprop(∃ κ : ℕ, cellInv ER (Rd (xin m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 18 => iprop(∃ κ : ℕ, cellInv ER (Rd (xin m)) κ (kcell ck))),
    bigSep_congr (s := Finset.univ) (fun (c : Dev nD) _ => bigSep_sep' Finset.univ (fun k : Fin 18 => (atPos ER (kcell (c, k)) 0 ∅ 0 : sProp 𝕄)) (fun k => reached ER (kcell (c, k)) 0)),
    bigSep_sep', ← bigSep_univ_prod (fun ck : Dev nD × Fin 18 => (reached ER (kcell ck) 0 : sProp 𝕄))]
  iintro ⟨HI, ⟨Hat, #HR⟩, Htok⟩
  ihave HK := (BI.bigSep_exists_pi Finset.univ (fun (ck : Dev nD × Fin 18) (κ : ℕ) => (cellInv ER (Rd (xin m)) κ (kcell ck) : sProp 𝕄))) $$ HI
  icases HK with ⟨%K, #HI⟩
  ihave Htk := (toks_dealt (F := F)) $$ Htok
  iapply ((bigSep_give (R := records (xin m) K) (Φ := fun c => linear (F := F) c)).trans
    (bigSep_mono fun c _ => show iprop(records (xin m) K ∗ linear c) ⊢ G' m c from by
      unfold G'; iintro ⟨H, Hl⟩; isplitl [H]; · (iexists K; iexact H)
      iexact Hl))
  isplitr
  · unfold records; isplitl; · iexact HI
    iexact HR
  · iapply (Entails.of_eq (show _ = (bigSep Finset.univ fun c : Dev nD => linear (F := F) c) from by unfold linear; rw [bigSep_sep']))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### What the devices are owed -/

theorem tally_at (a g : GSem nD τ sig) (k : ℕ) : (tallyAt a () k : CT) g () = if g = a then k else 0 := by
  rw [tallyAt_apply]; exact if_congr (by simp) rfl rfl

theorem sigT_at (d : Dev nD) (o : Fin 8) (c : Dev nD) (sm : SemLoc sig) :
    sigT d o ((c : Thread nD τ), sm) () = if c = up d o ∧ sm = .reg barS then 1 else 0 := by
  unfold sigT; rw [tally_at]
  exact if_congr (by constructor
                     · intro h; exact ⟨congrArg (fun g : GSem nD τ sig => g.1.1) h, congrArg Prod.snd h⟩
                     · rintro ⟨rfl, rfl⟩; rfl) rfl rfl
theorem sig2T_at (d : Dev nD) (o : Fin 8) (c : Dev nD) (sm : SemLoc sig) :
    sig2T d o ((c : Thread nD τ), sm) () = if c = up d o ∧ sm = .reg bar2S then 1 else 0 := by
  unfold sig2T; rw [tally_at]
  exact if_congr (by constructor
                     · intro h; exact ⟨congrArg (fun g : GSem nD τ sig => g.1.1) h, congrArg Prod.snd h⟩
                     · rintro ⟨rfl, rfl⟩; rfl) rfl rfl
theorem rcvT_at (d : Dev nD) (o : Fin 8) (c : Dev nD) (sm : SemLoc sig) :
    rcvT d o ((c : Thread nD τ), sm) () = if d.val + o.val < 8 ∧ c = up d o ∧ sm = .dma (rcvS o) then N else 0 := by
  unfold rcvT
  by_cases hd : d.val + o.val < 8
  · rw [if_pos hd, tally_at]
    exact if_congr (by constructor
                       · intro h; exact ⟨hd, congrArg (fun g : GSem nD τ sig => g.1.1) h, congrArg Prod.snd h⟩
                       · rintro ⟨-, rfl, rfl⟩; rfl) rfl rfl
  · rw [if_neg hd, if_neg fun h => hd h.1]; rfl

theorem O₀_at (d c : Dev nD) (sm : SemLoc sig) :
    O₀ d ((c : Thread nD τ), sm) () = (0 + (offs.map fun o => if c = up d o ∧ sm = .reg bar2S then 1 else 0).sum
      + (offs.map fun o => if d.val + o.val < 8 ∧ c = up d o ∧ sm = .dma (rcvS o) then N else 0).sum)
      + (offs.map fun o => if c = up d o ∧ sm = .reg barS then 1 else 0).sum := by
  unfold O₀ O₁ O₂
  rw [owe_apply, owe_apply, owe_apply]
  simp only [sigT_at, sig2T_at, rcvT_at]
  rfl

theorem owed_bar (c : Dev nD) : ∑ d : Dev nD, O₀ d (barC c) () = 7 := by
  simp only [O₀_at, reduceCtorEq, _root_.and_false, if_false, show (SemLoc.reg barS : SemLoc sig) = .reg bar2S ↔ False by decide, _root_.and_true]
  revert c; decide
theorem owed_bar2 (c : Dev nD) : ∑ d : Dev nD, O₀ d (bar2C c) () = 7 := by
  simp only [O₀_at, reduceCtorEq, _root_.and_false, if_false, show (SemLoc.reg bar2S : SemLoc sig) = .reg barS ↔ False by decide, _root_.and_true]
  revert c; decide
theorem owed_rcv (c : Dev nD) (o : Fin 8) : ∑ d : Dev nD, O₀ d (rcvC c o) () = if o ≠ 0 ∧ o.val ≤ c.val then N else 0 := by
  have h1 : ∀ (d : Dev nD) (o' : Fin 8), (if d.val + o'.val < 8 ∧ c = up d o' ∧ SemLoc.dma (rcvS o) = .dma (rcvS o') then N else 0)
      = (if d.val + o'.val < 8 ∧ c = up d o' ∧ o = o' then 1 else 0) * N := fun d o' => by
    rw [ite_mul, one_mul, zero_mul]
    exact if_congr (and_congr_right fun _ => and_congr_right fun _ => (by decide : ∀ o o' : Fin 8, (SemLoc.dma (rcvS o) : SemLoc sig) = .dma (rcvS o') ↔ o = o') o o') rfl rfl
  simp only [O₀_at, reduceCtorEq, _root_.and_false, if_false, h1, List.sum_map_mul_right]
  have h2 : ∀ (c : Dev nD) (o : Fin 8), (∑ d : Dev nD, (offs.map fun o' => if d.val + o'.val < 8 ∧ c = up d o' ∧ o = o' then 1 else 0).sum)
      = if o ≠ 0 ∧ o.val ≤ c.val then 1 else 0 := by decide
  have h3 : (offs.map fun _ => 0).sum = 0 := rfl
  simp only [h3, Nat.zero_add, Nat.add_zero, _root_.and_false, if_false, List.map_const', List.sum_replicate, smul_zero]
  rw [← Finset.sum_mul, h2, ite_mul, one_mul, zero_mul]

theorem credit_eq (c : Dev nD) (sm : SemLoc sig) (k : ℕ) (h : ∑ d : Dev nD, O₀ d ((c : Thread nD τ), sm) () = k) :
    tallyOn ((c : Thread nD τ), sm) (launchCredit (Pipeline.owing O₀) 0 ((c : Thread nD τ), sm)) = (tallyAt ((c : Thread nD τ), sm) () k : CT) := by
  unfold tallyAt; refine congrArg _ (Finsupp.ext fun u => ?_); cases u
  rw [Pipeline.launchCredit_owing, Finsupp.single_eq_same, h]

omit [FloatOps F] in
theorem cred_at (c : Dev nD) (sm : SemLoc sig) (k : ℕ) (h : ∑ d : Dev nD, O₀ d ((c : Thread nD τ), sm) () = k) :
    (cred (tallyOn ((c : Thread nD τ), sm) (launchCredit (Pipeline.owing O₀) 0 ((c : Thread nD τ), sm))) : sProp 𝕄)
      ⊢ cred (tallyAt ((c : Thread nD τ), sm) () k) := Entails.of_eq (congrArg cred (credit_eq c sm k h))
omit [FloatOps F] in
theorem cred_rcv (c : Dev nD) (o : Fin 8) :
    (cred (tallyAt (rcvC c o) () (if o ≠ 0 ∧ o.val ≤ c.val then N else 0)) : sProp 𝕄) ⊢ rcvCred (F := F) c o := by
  unfold rcvCred
  by_cases h : o ≠ 0 ∧ o.val ≤ c.val
  · rw [if_pos h, if_pos h]
  · rw [if_neg h, if_neg h]; iintro -; iempintro
omit [FloatOps F] in
theorem keep {A B C D A' B' D' : sProp 𝕄} (h1 : A ⊢ A') (h2 : B ⊢ B') (h3 : D ⊢ D') : iprop(A ∗ B ∗ C ∗ D) ⊢ iprop(A' ∗ B' ∗ D') := by
  iintro ⟨HA, HB, -, HD⟩
  isplitl [HA]; · iapply h1; iexact HA
  isplitl [HB]; · iapply h2; iexact HB
  iapply h3; iexact HD

omit [FloatOps F] in
/-- What device `c` may wait for: seven units at each barrier, and a row from each earlier device. -/
theorem creds (c : Dev nD) :
    (Pipeline.launchCred O₀ c : sProp 𝕄) ⊢ iprop(cred (tallyAt (barC c) () 7) ∗ cred (tallyAt (bar2C c) () 7) ∗ (bigSep Finset.univ fun o : Fin 8 => rcvCred (F := F) c o)) := by
  unfold Pipeline.launchCred
  refine (bigSep_subset (Finset.subset_univ (Finset.univ.map ⟨csem, fun k k' h => (by decide : ∀ k k' : Fin 18, csem k = csem k' → k = k') k k' h⟩))).trans ?_
  rw [bigSep_map, eighteen]
  exact keep (cred_at c (.reg barS) 7 (owed_bar c)) (cred_at c (.reg bar2S) 7 (owed_bar2 c))
    (bigSep_mono fun o _ => (cred_at c (.dma (rcvS o)) _ (owed_rcv c o)).trans (cred_rcv c o))

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' linear
  rw [eighteen]
  iintro ⟨-, Hlev, Hcr, -, ⟨HK, ⟨HaB, HaE, HaS, HaV⟩, HtB, HtE, HtS, HtV⟩⟩
  ihave Hc := (creds (F := F) c) $$ Hcr
  icases Hc with ⟨HcB, HcE, HcV⟩
  imodintro
  unfold start ghost
  isplitl
  · isplitl [HK]; · iexact HK
    isplitl [Hlev]; · iexact Hlev
    isplitl [HaB]; · iexact HaB
    isplitl [HaE]; · iexact HaE
    isplitl [HaS]; · iexact HaS
    isplitl [HaV]; · iexact HaV
    isplitl [HtB]; · iexact HtB
    isplitl [HtE]; · iexact HtE
    isplitl [HtS]; · iexact HtS
    isplitl [HtV]; · iexact HtV
    isplitl [HcB]; · iexact HcB
    isplitl [HcE]; · iexact HcE
    iexact HcV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ zeros
  iintro ⟨Hz, Hr⟩
  ihave Hz' := (Entails.of_eq ((eighteen fun k : Fin 18 => (semVal (kcell (c, k)) 0 : sProp 𝕄)).symm.trans (sems0_eq (F := F) c).symm)) $$ [Hz]
  · iexact Hz
  icases Hz' with ⟨Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hk : lvK (kd (.dma (((cfgs 0).win w).sem s))) = 0 := by fin_cases w <;> fin_cases s <;> rfl
    rcases t with ⟨_ | _, ht⟩
    · exact mayWait_below c _ (O₀ c) 0 (le_of_eq hk) fun g u h => O₀_pos h
    · exact mayWait_below c _ 0 0 (le_of_eq hk) fun g u h => absurd h (Nat.lt_irrefl 0)

/-! ### The run -/

/-- What window `w`'s array holds in the end. -/
def finalA (c : Dev nD) (w : Fin cfg0.W) : Buf (Elt F) ((cfg0.win w).arr.view.loc (c : Thread nD τ)) := (dats m ρ 0 c).arrAt w cfg0.N

set_option maxHeartbeats 1000000 in
set_option maxRecDepth 8000 in
/-- The program's run, for any float values, from any memory with the semaphores at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_scan m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem final_x (c : Dev nD) : finalA m ρ c (0 : Fin 2) = m ((c : Thread nD τ).loc main_arg0) :=
  (dats (F := F) m ρ 0 c).arrAt_in (0 : Fin 2) rfl _

end Cert.KernelIdeal.Scan

end
-- ==== Proof.KernelIdeal.Final.lean ====
module

public import proofs.«01_k».proof.Proof.KernelIdeal.Launch
public import proofs.«01_k».proof.Proof.Gen.KernelIdeal.Points
public import Idealize.ShloMosaic.Lib.Pipeline.Value

/-! The arrays of the program around its one call: both windows are whole arrays, so a device stages its whole block of the
input, and its block of the result ends as what the body computed. -/

@[expose] public section

noncomputable section

namespace Cert.KernelIdeal.Scan

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The staged block of the input is the device's whole argument. -/
theorem xin_eq (c : Dev nD) : xin m c = m ((c : Thread nD τ).loc main_arg0) := funext fun y => by
  unfold xin
  rw [View.read_apply]
  refine congrArg (m ((c : Thread nD τ).loc main_arg0)) (funext fun a => Fin.ext ?_)
  exact Window.rect_emb_val_of_index_zero win0_0 (0 : Fin 1) a rfl y

/-- An entry of the result's block has the same place in the result. -/
theorem emb_y (t : Fin cfg0.N) (y : S2048x1024.Idx) : (win0_1.blk t).view.emb y = y :=
  funext fun a => Fin.ext (Window.rect_emb_val_of_index_zero win0_1 t a rfl y)

/-- THE RESULT: at the end of the run device `c`'s result array holds what its body computed. -/
theorem final_y (c : Dev nD) : finalA m ρ c (1 : Fin 2) = yout m c :=
  (dats m ρ 0 c).arrAt_eq_of_cover (1 : Fin 2) (yout m c)
    (fun t _ => funext fun y => (congrArg (yout m c) (emb_y t y)).symm)
    (fun i => ⟨t0_0, flush0_1 _, (emb_y t0_0 i) ▸ View.emb_mem_set _ i⟩)

end Cert.KernelIdeal.Scan

end
-- ==== Proof.Columns.lean ====
module

public import Idealize.ShloMosaic.PureOps.Vector
public import Idealize.ShloMosaic.PureOps.ShapeOps
public import Idealize.ShloMosaic.PureOps.Ideal
public import Idealize.ShloMosaic.Lib.IdealHost
public import Idealize.ShloMosaic.Lib.ValueIdxCore
public import Idealize.ShloMosaic.Lib.Pipeline.Value
public import Idealize.ShloMosaic.Lib.Tactic

/-! Products down the columns of a matrix of extended reals. A matrix of 1024 columns is described by a function of the
column and the row number; the two devices by which a kernel multiplies rows together are then read as products over
ranges of row numbers: the doubling step of a running product (each row times the row `m` above it), and the halving step
of a tree product (the upper half times the lower half). -/

@[expose] public section

noncomputable section

namespace Cert.Columns

open Idealize.ShloMosaic Idealize.ShloMosaic.ValueIdx Finset

/-- Matrices of `n` rows and 1024 columns. -/
abbrev Mat (n : ℕ) : Shape := ⟨2, ![n, 1024]⟩

/-- The product of `f` over the last `m` row numbers up to `r`, or over as many as there are. -/
def win (f : ℕ → EReal) (m r : ℕ) : EReal := ∏ i ∈ Ico (r + 1 - m) (r + 1), f i

theorem win_one (f : ℕ → EReal) (r : ℕ) : win f 1 r = f r := by
  unfold win
  rw [show r + 1 - 1 = r from by omega, Nat.Ico_succ_singleton, prod_singleton]

/-- A window that starts in the first rows reaches the beginning. -/
theorem win_full (f : ℕ → EReal) {m r : ℕ} (h : r < m) : win f m r = ∏ i ∈ range (r + 1), f i := by
  unfold win
  rw [show r + 1 - m = 0 from by omega, range_eq_Ico]

/-- The window of `m` up to `r` times the one `m` rows above it is the window of `2 m`. -/
theorem win_double (f : ℕ → EReal) (m r : ℕ) : win f m r * (if r < m then 1 else win f m (r - m)) = win f (2 * m) r := by
  split
  · rename_i h
    rw [mul_one, win_full f h, win_full f (by omega : r < 2 * m)]
  · rename_i h
    unfold win
    rw [mul_comm, show r - m + 1 = r + 1 - m from by omega, show r + 1 - m - m = r + 1 - 2 * m from by omega]
    exact prod_Ico_consecutive f (by omega) (by omega)

/-- The matrix `v` has `f j r` in column `j` and row `r`. -/
def Is (n : ℕ) (v : (Mat n).Idx → EReal) (f : Fin 1024 → ℕ → EReal) : Prop := ∀ (r : Fin n) (j : Fin 1024), v (ix2 r j) = f j r.val

/-- The entries of a matrix as a function of column and row number. -/
def ent {n : ℕ} (v : (Mat n).Idx → EReal) (j : Fin 1024) (r : ℕ) : EReal := if h : r < n then v (ix2 ⟨r, h⟩ j) else 1

theorem is_ent {n : ℕ} (v : (Mat n).Idx → EReal) : Is n v (ent v) := fun r j => by
  unfold ent
  rw [dif_pos r.isLt]

theorem Is.congr {n : ℕ} {v : (Mat n).Idx → EReal} {f g : Fin 1024 → ℕ → EReal} (h : Is n v f)
    (e : ∀ j r, r < n → f j r = g j r) : Is n v g := fun r j => (h r j).trans (e j r.val r.isLt)

/-- A block of rows, cut out at row `o`. -/
theorem Is.slice {n k o : ℕ} {v : (Mat n).Idx → EReal} {f : Fin 1024 → ℕ → EReal} (hv : Is n v f)
    (hs : (Mat n).Slices ![o, 0] (Mat k)) : Is k (extractStridedSlice (Mat k) ![o, 0] v hs) (fun j r => f j (o + r)) := fun r j => by
  have ho : o + k ≤ n := hs.2 0
  refine Eq.trans (congrArg v ?_) (hv ⟨o + r.val, by omega⟩ j)
  funext a
  match a with
  | ⟨0, _⟩ => exact Fin.ext rfl
  | ⟨1, _⟩ => exact Fin.ext (Nat.zero_add _)

/-- Products entry by entry. -/
theorem Is.mul {n : ℕ} {φ : FTy} {v w : FVec Ideal (Mat n) φ} {f g : Fin 1024 → ℕ → EReal} (hv : Is n v f) (hw : Is n w g) :
    Is n (mulf v w) (fun j r => f j r * g j r) := fun r j => by
  show v (ix2 r j) * w (ix2 r j) = _
  rw [hv r j, hw r j]

/-- One row repeated. -/
theorem Is.spread {n : ℕ} {v : (Mat 1).Idx → EReal} {f : Fin 1024 → ℕ → EReal} (hv : Is 1 v f) (hb : (Mat 1).Broadcasts (Mat n)) :
    Is n (broadcastTo (Mat n) v hb) (fun j _ => f j 0) := fun r j => by
  refine Eq.trans (congrArg v ?_) (hv 0 j)
  funext a
  match a with
  | ⟨0, _⟩ => exact Subsingleton.elim (α := Fin 1) _ _
  | ⟨1, _⟩ => exact Fin.ext rfl

/-- The doubling step of a running product: each row times the row `m` above it, the first `m` rows times one. -/
def dbl {n : ℕ} (m k : ℕ) (v : FVec Ideal (Mat n) .f32) (hs : (Mat n).Slices ![0, 0] (Mat k))
    (hc : Shape.Concatenates [Mat m, Mat k] (Mat n) 0) : FVec Ideal (Mat n) .f32 :=
  mulf v (concatenate (Mat n) 0 [⟨Mat m, broadcast (Mat m) (Scalar.ofBits .f32 0x3F800000#32 : Ideal .f32)⟩,
    ⟨Mat k, extractStridedSlice (Mat k) ![0, 0] v hs⟩] hc)

/-- THE DOUBLING STEP: rows that are products over windows of `m` rows become products over windows of `2 m`. -/
theorem Is.step {n m k : ℕ} {v : FVec Ideal (Mat n) .f32} {f : Fin 1024 → ℕ → EReal} (hv : Is n v (fun j => win (f j) m))
    (hs : (Mat n).Slices ![0, 0] (Mat k)) (hc : Shape.Concatenates [Mat m, Mat k] (Mat n) 0) :
    Is n (dbl m k v hs hc) (fun j => win (f j) (2 * m)) := fun r j => by
  have hn : m + k = n := by
    have := hc.2.2
    simpa using this
  refine Eq.trans ?_ (win_double (f j) m r.val)
  refine congrArg₂ (· * ·) (hv r j) ?_
  by_cases h : r.val < m
  · rw [if_pos h]
    refine (concatenate_pair_apply_left (t := Mat n) 0 _ _ hc (ix2 r j) rfl (ix2 ⟨r.val, h⟩ j) (Fin.forall_fin_two.mpr ⟨rfl, rfl⟩)).trans ?_
    exact Ideal.ofBits_one_f32
  · rw [if_neg h]
    refine (concatenate_pair_apply_right (t := Mat n) 0 _ _ hc (ix2 r j) rfl rfl (ix2 ⟨r.val - m, by omega⟩ j)
      (Fin.forall_fin_two.mpr ⟨fun e => absurd rfl e, fun _ => rfl⟩) (by show r.val - m + m = r.val; omega)).trans ?_
    refine (hv.slice hs ⟨r.val - m, by omega⟩ j).trans ?_
    show win (f j) m (0 + (r.val - m)) = _
    rw [Nat.zero_add]

/-- A product over `2 q` numbers, the even ones and the odd ones apart. -/
theorem prod_even_odd (f : ℕ → EReal) (r h : ℕ) : ∀ q : ℕ,
    (∏ i ∈ range q, f (r + 2 * h * i)) * (∏ i ∈ range q, f (h + r + 2 * h * i)) = ∏ i ∈ range (2 * q), f (r + h * i)
  | 0 => by simp
  | q + 1 => by
    rw [prod_range_succ, prod_range_succ, mul_mul_mul_comm, prod_even_odd f r h q, show 2 * (q + 1) = 2 * q + 1 + 1 from rfl,
      prod_range_succ, prod_range_succ]
    have e : r + 2 * h * q = r + h * (2 * q) := by ring
    have e' : h + r + 2 * h * q = r + h * (2 * q + 1) := by ring
    rw [e, e']
    exact (mul_assoc _ _ _).symm

/-- THE HALVING STEP: of `2 h` rows, each a product over row numbers `2 h` apart, the upper half times the lower half is
    `h` rows, each a product over twice as many row numbers `h` apart. -/
theorem Is.halve {h q : ℕ} {φ : FTy} {v : FVec Ideal (Mat (2 * h)) φ} {f : Fin 1024 → ℕ → EReal}
    (hv : Is (2 * h) v (fun j r => ∏ i ∈ range q, f j (r + 2 * h * i)))
    (h0 : (Mat (2 * h)).Slices ![0, 0] (Mat h)) (h1 : (Mat (2 * h)).Slices ![h, 0] (Mat h)) :
    Is h (mulf (extractStridedSlice (Mat h) ![0, 0] v h0) (extractStridedSlice (Mat h) ![h, 0] v h1))
      (fun j r => ∏ i ∈ range (2 * q), f j (r + h * i)) :=
  (Is.mul (φ := φ) (hv.slice h0) (hv.slice h1)).congr fun j r _ => by
    rw [Nat.zero_add]
    exact prod_even_odd (f j) r h q

/-- `n` rows stacked. -/
theorem is_stack {n : ℕ} (t : Fin n → (Mat 1).Idx → EReal) (f : Fin 1024 → ℕ → EReal) (ht : ∀ g : Fin n, Is 1 (t g) (fun j _ => f j g.val))
    (h : Shape.Concatenates ((List.ofFn fun g : Fin n => (⟨Mat 1, t g⟩ : (s : Shape) × (s.Idx → EReal))).map (·.1)) (Mat n) 0) :
    Is n (concatenate (Mat n) 0 (List.ofFn fun g : Fin n => (⟨Mat 1, t g⟩ : (s : Shape) × (s.Idx → EReal))) h) f := fun r j =>
  (concatenate_ofFn_unit_apply (t := Mat n) (s₁ := Mat 1) 0 t h rfl rfl (ix2 r j) r rfl (ix2 0 j)
    (Fin.forall_fin_two.mpr ⟨fun e => absurd rfl e, fun _ => rfl⟩)).trans (ht r 0 j)

/-- A product over `n` blocks of `k` numbers each. -/
theorem prod_blocks (f : ℕ → EReal) (k : ℕ) : ∀ n : ℕ, ∏ g ∈ range n, ∏ i ∈ range k, f (k * g + i) = ∏ i ∈ range (k * n), f i
  | 0 => by simp
  | n + 1 => by rw [prod_range_succ, prod_blocks f k n, Nat.mul_succ, prod_range_add]

end Cert.Columns

end
-- ==== Proof.DeviceValue.lean ====
module

public import proofs.«01_k».proof.Proof.Columns
public import proofs.«01_k».proof.Proof.KernelIdeal.Mem

/-! What one device computes, at the extended reals: each group's total, the running products of the totals, the row that
the device sends, the product of the rows that it receives, and its result, each as a product of entries of `x` over a range
of row numbers. -/

@[expose] public section

noncomputable section

namespace Cert.KernelIdeal.Scan

open Cert.KernelIdeal Cert.KernelIdeal.Gen Cert.Columns
open Idealize.ShloMosaic Idealize.ShloMosaic.ValueIdx Finset

/-- The entries of a device's block by column and row number. -/
abbrev E (x : XC Ideal) : Fin 1024 → ℕ → EReal := ent (n := 2048) x

/-- Group `g` holds the rows from `32 g`. -/
theorem is_xg (x : XC Ideal) (g : Fin 64) : Is 32 (xg x g) (fun j r => E x j (32 * g.val + r)) := fun r j => by
  refine Eq.trans ?_ (is_ent (n := 2048) x ⟨32 * g.val + r.val, by omega⟩ j)
  show x _ = x _
  refine congrArg x ?_
  funext a
  match a with
  | ⟨0, _⟩ => exact Fin.ext (by show 32 * g.val + 1 * r.val = _; rw [Nat.one_mul])
  | ⟨1, _⟩ => exact Fin.ext (by show 0 + 1 * j.val = _; rw [Nat.one_mul, Nat.zero_add])

/-- The tree product of 32 rows is their product. -/
theorem is_tree {v : FVec Ideal S32x1024 .bf16} {f : Fin 1024 → ℕ → EReal} (hv : Is 32 v f) :
    Is 1 (k0_pay2 (F := Ideal) v) (fun j _ => ∏ i ∈ range 32, f j i) := by
  have hv' : Is 32 (shapeCast S32x1024 v shapeCasts_S32x1024_S32x1024) f := by rw [shapeCast_self]; exact hv
  have h0 : Is (2 * 16) (shapeCast S32x1024 v shapeCasts_S32x1024_S32x1024) (fun j r => ∏ i ∈ range 1, f j (r + 2 * 16 * i)) :=
    hv'.congr fun j r _ => by simp
  have h1 := Is.halve (φ := .bf16) (h := 16) h0 slices_S32x1024_o0_0_S16x1024 slices_S32x1024_o16_0_S16x1024
  have h2 := Is.halve (φ := .bf16) (h := 8) h1 slices_S16x1024_o0_0_S8x1024 slices_S16x1024_o8_0_S8x1024
  have h3 := Is.halve (φ := .bf16) (h := 4) h2 slices_S8x1024_o0_0_S4x1024 slices_S8x1024_o4_0_S4x1024
  have h4 := Is.halve (φ := .bf16) (h := 2) h3 slices_S4x1024_o0_0_S2x1024 slices_S4x1024_o2_0_S2x1024
  have h5 := Is.halve (φ := .bf16) (h := 1) h4 slices_S2x1024_o0_0_S1x1024 slices_S2x1024_o1_0_S1x1024
  have h6 : Is 1 (k0_pay2 (F := Ideal) v) (fun j r => ∏ i ∈ range 32, f j (r + 1 * i)) := h5
  exact h6.congr fun j r hr => by
    obtain rfl : r = 0 := by omega
    exact prod_congr rfl fun i _ => by rw [Nat.zero_add, Nat.one_mul]

/-- Group `g`'s total. -/
theorem is_tt (x : XC Ideal) (g : Fin 64) : Is 1 (tt x g) (fun j _ => ∏ i ∈ range 32, E x j (32 * g.val + i)) :=
  is_tree (is_xg x g)

/-- The 64 totals, one above the other. -/
def stack (x : XC Ideal) : FVec Ideal S64x1024 .f32 :=
  concatenate S64x1024 0 (List.ofFn fun g : Fin 64 => (⟨S1x1024, tt x g⟩ : (s : Shape) × (s.Idx → EReal)))
    concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S64x1024_d0

theorem is_stacked (x : XC Ideal) : Is 64 (stack x) (fun j g => ∏ i ∈ range 32, E x j (32 * g + i)) :=
  is_stack (fun g => tt x g) (fun j g => ∏ i ∈ range 32, E x j (32 * g + i)) (fun g => is_tt x g) _

/-- The first three doubling steps. -/
theorem inc3_eq (x : XC Ideal) : inc3 x =
    dbl 4 60 (dbl 2 62 (dbl 1 63 (stack x) slices_S64x1024_o0_0_S63x1024 concatenates_S1x1024_S63x1024_S64x1024_d0)
      slices_S64x1024_o0_0_S62x1024 concatenates_S2x1024_S62x1024_S64x1024_d0)
      slices_S64x1024_o0_0_S60x1024 concatenates_S4x1024_S60x1024_S64x1024_d0 := rfl

/-- The other three. -/
theorem inc_eq (x : XC Ideal) : inc x =
    dbl 32 32 (dbl 16 48 (dbl 8 56 (inc3 x) slices_S64x1024_o0_0_S56x1024 concatenates_S8x1024_S56x1024_S64x1024_d0)
      slices_S64x1024_o0_0_S48x1024 concatenates_S16x1024_S48x1024_S64x1024_d0)
      slices_S64x1024_o0_0_S32x1024 concatenates_S32x1024_S32x1024_S64x1024_d0 := rfl

/-- The running products: row `g` is the product of all rows of the block up to the end of group `g`. -/
theorem is_inc (x : XC Ideal) : Is 64 (inc x) (fun j g => ∏ i ∈ range (32 * (g + 1)), E x j i) := by
  rw [inc_eq, inc3_eq]
  have h0 : Is 64 (stack x) (fun j => win (fun g => ∏ i ∈ range 32, E x j (32 * g + i)) 1) :=
    (is_stacked x).congr fun j r _ => (win_one (fun g => ∏ i ∈ range 32, E x j (32 * g + i)) r).symm
  refine ((((((h0.step _ _).step _ _).step _ _).step _ _).step _ _).step _ _).congr fun j r hr => ?_
  rw [win_full _ (by omega : r < 2 * (2 * (2 * (2 * (2 * (2 * 1))))))]
  exact prod_blocks (E x j) 32 (r + 1)

/-- The product of the groups before group `g`. -/
theorem is_gp (x : XC Ideal) : ∀ (g : ℕ) (h : g < 64), Is 1 (gp x g h) (fun j _ => ∏ i ∈ range (32 * g), E x j i)
  | 0, _ => fun r j => by
    show Ideal.ofBits .f32 0x3F800000#32 = _
    rw [Ideal.ofBits_one_f32]
    rfl
  | g + 1, h => ((is_inc x).slice (slicesInc g (by omega))).congr fun j r hr => by
    obtain rfl : r = 0 := by omega
    rfl

/-- The row that a device sends is the product of its whole block. -/
theorem is_tot (x : XC Ideal) : Is 1 (tot x) (fun j _ => ∏ i ∈ range 2048, E x j i) := by
  have h := (is_inc x).slice slices_S64x1024_o63_0_S1x1024
  have e : tot x = shapeCast S1x1024 (extractStridedSlice S1x1024 ![63, 0] (inc x) slices_S64x1024_o63_0_S1x1024) shapeCasts_S1x1024_S1x1024 := rfl
  rw [e, shapeCast_self]
  exact h.congr fun j r hr => by
    obtain rfl : r = 0 := by omega
    rfl

/-- The tree product of eight rows is their product. -/
theorem is_tree8 {v : FVec Ideal S8x1024 .f32} {f : Fin 1024 → ℕ → EReal} (hv : Is 8 v f) :
    Is 1 (tree8 (F := Ideal) v) (fun j _ => ∏ i ∈ range 8, f j i) := by
  have h0 : Is (2 * 4) v (fun j r => ∏ i ∈ range 1, f j (r + 2 * 4 * i)) := hv.congr fun j r _ => by simp
  have h1 := Is.halve (φ := .f32) (h := 4) h0 slices_S8x1024_o0_0_S4x1024 slices_S8x1024_o4_0_S4x1024
  have h2 := Is.halve (φ := .f32) (h := 2) h1 slices_S4x1024_o0_0_S2x1024 slices_S4x1024_o2_0_S2x1024
  have h3 : Is 1 (tree8 (F := Ideal) v) (fun j r => ∏ i ∈ range 8, f j (r + 1 * i)) :=
    Is.halve (φ := .f32) (h := 1) h2 slices_S2x1024_o0_0_S1x1024 slices_S2x1024_o1_0_S1x1024
  exact h3.congr fun j r hr => by
    obtain rfl : r = 0 := by omega
    exact prod_congr rfl fun i _ => by rw [Nat.zero_add, Nat.one_mul]

/-- Of eight numbers, those from 1 to `c`, read backwards from `c`, are the `c` numbers below `c`. -/
theorem prod_back (f : ℕ → EReal) (c : ℕ) (hc : c < 8) :
    ∏ o ∈ range 8, (if o ≠ 0 ∧ o ≤ c then f ((c + (8 - o)) % 8) else 1) = ∏ d ∈ range c, f d := by
  have : ∀ c : Fin 8, ∏ o ∈ range 8, (if o ≠ 0 ∧ o ≤ c.val then f ((c.val + (8 - o)) % 8) else 1) = ∏ d ∈ range c.val, f d := by
    refine fun c => ?_
    fin_cases c <;> simp [prod_range_succ, mul_comm, mul_left_comm, mul_assoc]
  exact this ⟨c, hc⟩

/-- What a device multiplies its rows by: the product of the whole blocks of the devices before it. -/
theorem is_pre (xs : Dev nD → XC Ideal) (P : Fin 1024 → ℕ → EReal)
    (hP : ∀ (d : Dev nD) (j : Fin 1024), ∏ i ∈ range 2048, E (xs d) j i = P j d.val) (c : Dev nD) :
    Is 1 (pre c (recvd xs c)) (fun j _ => ∏ d ∈ range c.val, P j d) := by
  rw [pre_eq]
  have h : Is 8 (masked c (recvd xs c)) (fun j o => if o ≠ 0 ∧ o ≤ c.val then P j ((c.val + (8 - o)) % 8) else 1) := fun o j => by
    show (if o.val ≠ 0 ∧ o.val ≤ c.val then recvd xs c (ix2 o j) else Ideal.ofBits .f32 0x3F800000#32) = _
    rw [Ideal.ofBits_one_f32]
    refine congrArg (fun t => if o.val ≠ 0 ∧ o.val ≤ c.val then t else (1 : EReal)) ?_
    refine Eq.trans ?_ (hP (dn c o) j)
    refine Eq.trans (congrArg (tot (xs (dn c o))) ?_) (is_tot (xs (dn c o)) 0 j)
    funext a
    match a with
    | ⟨0, _⟩ => rfl
    | ⟨1, _⟩ => rfl
  exact (is_tree8 h).congr fun j r _ => prod_back (P j) c.val c.isLt

/-- A group of 32 rows scanned with the row `p`: row `r` is the product of the group's rows up to `r`, times `p`. -/
theorem is_scan {p : FVec Ideal S1x1024 .f32} {v : FVec Ideal S32x1024 .bf16} {f q : Fin 1024 → ℕ → EReal} (hp : Is 1 p q) (hv : Is 32 v f) :
    Is 32 (k0_pay161 (F := Ideal) p v) (fun j r => (∏ i ∈ range (r + 1), f j i) * q j 0) := by
  have hv' : Is 32 (shapeCast S32x1024 v shapeCasts_S32x1024_S32x1024) f := by rw [shapeCast_self]; exact hv
  have h0 : Is 32 (shapeCast S32x1024 v shapeCasts_S32x1024_S32x1024 : FVec Ideal S32x1024 .f32) (fun j => win (f j) 1) :=
    hv'.congr fun j r _ => (win_one (f j) r).symm
  have h5 := ((((h0.step (k := 31) slices_S32x1024_o0_0_S31x1024 concatenates_S1x1024_S31x1024_S32x1024_d0).step (k := 30)
    slices_S32x1024_o0_0_S30x1024 concatenates_S2x1024_S30x1024_S32x1024_d0).step (k := 28)
    slices_S32x1024_o0_0_S28x1024 concatenates_S4x1024_S28x1024_S32x1024_d0).step (k := 24)
    slices_S32x1024_o0_0_S24x1024 concatenates_S8x1024_S24x1024_S32x1024_d0).step (k := 16)
    slices_S32x1024_o0_0_S16x1024 concatenates_S16x1024_S16x1024_S32x1024_d0
  have h6 : Is 32 (k0_pay161 (F := Ideal) p v) _ := Is.mul (φ := .f32) h5 (hp.spread broadcasts_S1x1024_S32x1024)
  refine Is.congr h6 fun j r hr => ?_
  rw [win_full _ (by omega : r < 2 * (2 * (2 * (2 * (2 * 1)))))]

/-- A group of the result: row `r` of group `g` is the product of the block's rows up to it, times the received product. -/
theorem is_res (x : XC Ideal) (p : FVec Ideal S1x1024 .f32) (q : Fin 1024 → ℕ → EReal) (hp : Is 1 p q) (g : Fin 64) :
    Is 32 (res x p g) (fun j r => (∏ i ∈ range (32 * g.val + r + 1), E x j i) * q j 0) := by
  have hsplit (j : Fin 1024) (r : ℕ) : (∏ i ∈ range (r + 1), E x j (32 * g.val + i)) * ∏ i ∈ range (32 * g.val), E x j i
      = ∏ i ∈ range (32 * g.val + r + 1), E x j i := by
    exact (mul_comm _ _).trans (prod_range_add (E x j) (32 * g.val) (r + 1)).symm
  unfold res
  split
  · have h1 := is_scan (is_gp x g.val g.isLt) (is_xg x g)
    have e : k0_pay337 p (sc1 x g)
        = mulf (shapeCast S32x1024 (sc1 x g) shapeCasts_S32x1024_S32x1024) (broadcastTo S32x1024 p broadcasts_S1x1024_S32x1024) := rfl
    rw [e, shapeCast_self]
    exact (Is.mul (φ := .f32) h1 (hp.spread broadcasts_S1x1024_S32x1024)).congr fun j r _ => by rw [hsplit j r]
  · refine (is_scan (Is.mul (φ := .f32) (is_gp x g.val g.isLt) hp) (is_xg x g)).congr fun j r _ => ?_
    rw [← mul_assoc, hsplit j r]

/-- A DEVICE'S RESULT: row `r` is the product of the block's rows up to `r`, times the received product. -/
theorem is_out (x : XC Ideal) (p : FVec Ideal S1x1024 .f32) (q : Fin 1024 → ℕ → EReal) (hp : Is 1 p q) :
    Is 2048 (outC x p) (fun j r => (∏ i ∈ range (r + 1), E x j i) * q j 0) := fun r j => by
  refine Eq.trans (congrArg (res x p ⟨r.val / 32, by omega⟩) ?_)
    ((is_res x p q hp ⟨r.val / 32, by omega⟩ ⟨r.val % 32, Nat.mod_lt _ (by decide)⟩ j).trans ?_)
  · funext a
    match a with
    | ⟨0, _⟩ => rfl
    | ⟨1, _⟩ => rfl
  · show (∏ i ∈ range (32 * (r.val / 32) + r.val % 32 + 1), E x j i) * q j 0 = _
    rw [Nat.div_add_mod]

end Cert.KernelIdeal.Scan

end
-- ==== Proof.RefValue.lean ====
module

public import proofs.«01_k».proof.Proof.Columns
public import proofs.«01_k».proof.Proof.Gen.ReferenceIdeal.Run
public import Idealize.ShloMosaic.Lib.DynamicIndex
public import Idealize.ShloMosaic.Lib.WordCmp
public import Idealize.ShloMosaic.Lib.Pointwise.ShapeOpsCore

/-! What the reference computes, at the extended reals: its loop over the rows leaves in row `R` the product of the rows up
to `R`. -/

@[expose] public section

noncomputable section

namespace Cert.ReferenceIdeal.Rows

open Cert.ReferenceIdeal Cert.ReferenceIdeal.Gen Cert.ReferenceIdeal.Value Cert.Columns
open Idealize.ShloMosaic Idealize.ShloMosaic.StableHlo Finset

/-- The carried buffers after `k` rows: the matrix, the counter, the product of the first `k` rows, and these rows of the result. -/
structure Inv (X : (Mat 16384).Idx → EReal) (k : ℕ) (V : Valuation τ sig (Elt Ideal)) : Prop where
  mat : V (Proc.devRef .tc main_v3_0) = X
  ctr : V (Proc.devRef .tc main_v3_1) = fun _ => BitVec.ofNat 32 k
  acc : ∀ j : Fin 1024, (V (Proc.devRef .tc main_v3_2) : (⟨1, ![1024]⟩ : Shape).Idx → EReal) (ValueIdx.ix1 j) = ∏ i ∈ range k, ent X j i
  out : ∀ (R : Fin 16384) (j : Fin 1024), R.val < k →
    (V (Proc.devRef .tc main_v3_3) : (Mat 16384).Idx → EReal) (ValueIdx.ix2 R j) = ∏ i ∈ range (R.val + 1), ent X j i

/-- Where row `k` starts, as the loop's two index words say it. -/
theorem start_eq (k : ℕ) (hk : k < 16384) (w : IVec S_ 32) (hw : w = fun _ => BitVec.ofNat 32 k) (a : Fin 2) :
    (((![w, constantI S_ 32 0#32] : Fin 2 → (⟨S_, .i32⟩ : BufTy).Contents (Elt Ideal))) a (Shape.Idx.first h_S_)).toInt = ((![k, 0] : Fin 2 → ℕ) a : ℤ) := by
  subst hw
  match a with
  | ⟨0, _⟩ => exact toInt_ofNat_of_lt (by omega)
  | ⟨1, _⟩ => rfl

/-- The carry after one more row: the product so far times that row. -/
theorem carry_eq {X : (Mat 16384).Idx → EReal} {k : ℕ} {V : Valuation τ sig (Elt Ideal)} (hk : k < 16384) (h : Inv X k V) (j : Fin 1024) :
    (res_main_while0b_v5 V : (⟨1, ![1024]⟩ : Shape).Idx → EReal) (ValueIdx.ix1 j) = ∏ i ∈ range (k + 1), ent X j i := by
  have hsl : S16384x1024.Slices ![k, 0] S1x1024 := ⟨rfl, Fin.forall_fin_two.mpr ⟨by show k + 1 ≤ 16384; omega, by show 0 + 1024 ≤ 1024; omega⟩⟩
  unfold res_main_while0b_v5
  rw [WordCmp.dynamicSlice_eq_extract S1x1024 _ _ _ ![k, 0] hsl (start_eq k hk _ h.ctr), h.mat, prod_range_succ]
  refine congrArg₂ (· * ·) (h.acc j) ?_
  refine (shapeCast_dropUnit_apply ![1024] (extractStridedSlice S1x1024 ![k, 0] X hsl) shapeCasts_S1x1024_S1024 (ValueIdx.ix1 j)).trans ?_
  refine Eq.trans (congrArg (extractStridedSlice S1x1024 ![k, 0] X hsl) ?_) (Is.slice (is_ent X) hsl 0 j)
  funext a
  match a with
  | ⟨0, _⟩ => rfl
  | ⟨1, _⟩ => rfl

/-- One row. -/
theorem Inv.next {X : (Mat 16384).Idx → EReal} {k : ℕ} {V : Valuation τ sig (Elt Ideal)} (hk : k < 16384) (h : Inv X k V) : Inv X (k + 1) (STEP V) where
  mat := (STEP_main_v3_0 V).trans h.mat
  ctr := by
    rw [STEP_main_v3_1]
    unfold step_main_v3_1
    rw [h.ctr]
    funext i
    exact (BitVec.ofNat_add k 1).symm
  acc j := by
    rw [STEP_main_v3_2]
    exact carry_eq hk h j
  out R j hR := by
    have hsl : S16384x1024.Slices ![k, 0] S1x1024 := ⟨rfl, Fin.forall_fin_two.mpr ⟨by show k + 1 ≤ 16384; omega, by show 0 + 1024 ≤ 1024; omega⟩⟩
    rw [STEP_main_v3_3]
    unfold step_main_v3_3
    rw [WordCmp.dynamicUpdateSlice_eq_update _ _ _ _ ![k, 0] hsl (start_eq k hk _ h.ctr)]
    show updateSlice (V (Proc.devRef .tc main_v3_3)) _ ![k, 0] hsl (ValueIdx.ix2 R j) = _
    unfold updateSlice
    by_cases hRk : R.val = k
    · have hin : ∀ a : Fin 2, (![k, 0] : Fin 2 → ℕ) a ≤ (ValueIdx.ix2 R j a).val
          ∧ (ValueIdx.ix2 R j a).val < (![k, 0] : Fin 2 → ℕ) a + S1x1024.size a :=
        Fin.forall_fin_two.mpr ⟨by show k ≤ R.val ∧ R.val < k + 1; omega, by show 0 ≤ j.val ∧ j.val < 0 + 1024; omega⟩
      refine (dif_pos hin).trans ?_
      rw [hRk]
      refine Eq.trans (congrArg (res_main_while0b_v5 V) ?_) (carry_eq hk h j)
      funext a
      match a with
      | ⟨0, _⟩ => rfl
    · refine (dif_neg (fun hin => hRk (by have h0 : k ≤ R.val ∧ R.val < k + 1 := hin (0 : Fin 2); omega))).trans ?_
      exact h.out R j (by omega)

/-- After the loop's entry. -/
theorem inv_entry (m : (ℓ : Loc nD τ sig) → Buf (Elt Ideal) ℓ) (c : Dev nD) :
    Inv (m ((c.tc : Thread nD τ).loc main_arg0)) 0 (entryContents preI m c) where
  mat := by
    simp only [entryContents, afterL_cons, afterL_nil]
    after_results
    rfl
  ctr := ctr_entry m c
  acc j := by
    have e : entryContents preI m c (Proc.devRef .tc main_v3_2) = fun _ => Ideal.ofBits .f32 0x3F800000#32 := by
      simp only [entryContents, afterL_cons, afterL_nil]
      after_results
      rfl
    rw [e]
    exact Ideal.ofBits_one_f32
  out R j h := absurd h (Nat.not_lt_zero _)

theorem inv_iter (m : (ℓ : Loc nD τ sig) → Buf (Elt Ideal) ℓ) (c : Dev nD) : ∀ k, k ≤ 16384 →
    Inv (m ((c.tc : Thread nD τ).loc main_arg0)) k (STEP^[k] (entryContents preI m c))
  | 0, _ => inv_entry m c
  | k + 1, hk => by
    rw [Function.iterate_succ_apply']
    exact (inv_iter m c k (by omega)).next hk

/-- The product of the rows up to each row. -/
def cumRows (X : (Mat 16384).Idx → EReal) : (Mat 16384).Idx → EReal := fun i => ∏ r ∈ range ((i 0).val + 1), ent X (i 1) r

/-- THE REFERENCE'S RUN: its result is the product of the rows up to each row; its argument and its counters end as they were. -/
theorem run_rows (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_3) = cumRows (m ((c.tc : Thread nD τ).loc main_arg0))
      ∧ r.2.mem ((c.tc : Thread nD τ).loc main_arg0) = m ((c.tc : Thread nD τ).loc main_arg0) :=
  (θ_run defs _ _).mono (fun _ h c => ⟨(h c).1.trans (by
    funext i
    rw [ValueIdx.eq_ix2 (n0 := 16384) (n1 := 1024) i]
    exact (inv_iter m c 16384 (Nat.le_refl _)).out (i 0) (i 1) (i 0).isLt), (h c).2⟩) (Value.run m ρ)

end Cert.ReferenceIdeal.Rows

end
-- ==== Proof.Equation.lean ====
module

public import proofs.«01_k».proof.Proof.DeviceValue
public import proofs.«01_k».proof.Proof.RefValue
public import Idealize.ShloMosaic.Lib.Layout

/-! The equation between the two programs at the extended reals: when each device's argument is its block of 2048 rows of the
reference's argument, each device's result is its block of the product of the rows up to each row. -/

@[expose] public section

noncomputable section

namespace Cert.KernelIdeal.Scan

open Cert.KernelIdeal Cert.KernelIdeal.Gen Cert.Columns Cert.ReferenceIdeal.Rows
open Idealize.ShloMosaic Finset

/-- Device `d`'s block of the array `X`. -/
abbrev part (X : (Mat 16384).Idx → EReal) (d : Dev nD) : XC Ideal := Layout.block ⟨2, ![2048, 1024]⟩ ⟨2, ![16384, 1024]⟩ 0 8 d X

/-- Row `i` of device `d`'s block is row `2048 d + i` of the array. -/
theorem E_part (X : (Mat 16384).Idx → EReal) (d : Dev nD) (j : Fin 1024) {i : ℕ} (hi : i < 2048) :
    E (part X d) j i = ent X j (2048 * d.val + i) := by
  have hd : d.val < 8 := d.isLt
  refine (dif_pos hi).trans (Eq.trans ?_ (dif_pos (by omega : 2048 * d.val + i < 16384)).symm)
  refine congrArg X (funext fun a => ?_)
  match a with
  | ⟨0, _⟩ => exact Fin.ext (by show d.val * 2048 + i = _; rw [Nat.mul_comm])
  | ⟨1, _⟩ => exact Fin.ext rfl

/-- THE EQUATION: what device `c` computes from the blocks of `X` is its block of the running product of `X`'s rows. -/
theorem out_eq (X : (Mat 16384).Idx → EReal) (c : Dev nD) :
    outC (part X c) (pre c (recvd (part X) c)) = Layout.block ⟨2, ![2048, 1024]⟩ ⟨2, ![16384, 1024]⟩ 0 8 c (cumRows X) := by
  have hp := is_pre (part X) (fun j d => ∏ i ∈ range 2048, ent X j (2048 * d + i))
    (fun d j => prod_congr rfl fun i hi => E_part X d j (mem_range.1 hi)) c
  funext i
  rw [ValueIdx.eq_ix2 (n0 := 2048) (n1 := 1024) i]
  generalize i 0 = r, i 1 = j
  have hr : r.val < 2048 := r.isLt
  refine (is_out (part X c) _ _ hp r j).trans ?_
  show (∏ k ∈ range (r.val + 1), E (part X c) j k) * (∏ d ∈ range c.val, ∏ k ∈ range 2048, ent X j (2048 * d + k))
    = ∏ k ∈ range (c.val * 2048 + r.val + 1), ent X j k
  rw [prod_blocks (ent X j), Nat.mul_comm c.val, Nat.add_assoc, prod_range_add (ent X j) (2048 * c.val), mul_comm]
  exact congrArg _ (prod_congr rfl fun k hk => E_part X c j (by have := mem_range.1 hk; omega))

end Cert.KernelIdeal.Scan

end
-- ==== Proof.lean ====
/- The five claims about the prefix product over rows, assembled from the two programs' runs and the equation between their
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Final
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed, on the floats' bits: every run ends, the arguments as they were and the counters at zero. -/
theorem frame_P : Cert.quiescent_Kernel := fun m ρ _ =>
  (θ_run Cert.Kernel.defs _ _).mono
    (fun _ h => ⟨fun c => (h.1 c (0 : Fin 2)).trans (Cert.Kernel.Scan.final_x m ρ c), h.2⟩)
    (Cert.Kernel.Scan.run_arrays (F := Bits) m ρ)

/-- The same of the kernel at the extended reals. -/
theorem frame_PI : Cert.quiescent_KernelIdeal := fun m ρ _ =>
  (θ_run Cert.KernelIdeal.defs _ _).mono
    (fun _ h => ⟨fun c => (h.1 c (0 : Fin 2)).trans (Cert.KernelIdeal.Scan.final_x m ρ c), h.2⟩)
    (Cert.KernelIdeal.Scan.run_arrays (F := Ideal) m ρ)

/-- The reference's run ends, its argument as it was; it declares no semaphore. -/
theorem frame_RI : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Rows.run_rows m ρ)

/-- No operation was rewritten. -/
theorem preserves_P_PI : Cert.preserves_Kernel_KernelIdeal := trivial

/-- The kernel's result at the extended reals is the reference's, device `c` holding block `c` of it: the reference's result
is the product of the rows up to each row, and a device's result, computed from its block and from the received rows, is its
block of that (`Cert.KernelIdeal.Scan.out_eq`). -/
theorem algebraic_PI_RI : Cert.algebraic_KernelIdeal_ReferenceIdeal := by
  intro m g m' g' _ hag
  let X := m' (((0 : Dev Cert.ReferenceIdeal.nD).tc : Thread _ Cert.ReferenceIdeal.τ).loc Cert.ReferenceIdeal.main_arg0)
  have hx : Cert.KernelIdeal.Scan.xin m = Cert.KernelIdeal.Scan.part X :=
    funext fun d => (Cert.KernelIdeal.Scan.xin_eq m d).trans (hag d)
  have hy : ∀ c, Cert.KernelIdeal.Scan.yout m c
      = Layout.block ⟨2, ![2048, 1024]⟩ ⟨2, ![16384, 1024]⟩ 0 8 c (Cert.ReferenceIdeal.Rows.cumRows X) := fun c => by
    unfold Cert.KernelIdeal.Scan.yout
    rw [hx]
    exact Cert.KernelIdeal.Scan.out_eq X c
  refine ⟨Cert.ReferenceIdeal.Rows.cumRows X, ?_, ?_⟩
  · exact (θ_run Cert.KernelIdeal.defs _ _).mono
      (fun _ h c => ⟨((h.1 c (1 : Fin 2)).trans (Cert.KernelIdeal.Scan.final_y m g c)).trans (hy c),
        (h.1 c (0 : Fin 2)).trans (Cert.KernelIdeal.Scan.final_x m g c)⟩)
      (Cert.KernelIdeal.Scan.run_arrays (F := Ideal) m g)
  · exact (θ_run Cert.ReferenceIdeal.defs _ _).mono (fun _ h => h 0) (Cert.ReferenceIdeal.Rows.run_rows m' g')

theorem claim : Cert.Claim :=
  ⟨Cert.Kernel.Gen.facts, Cert.KernelIdeal.Gen.facts, Cert.ReferenceIdeal.Gen.facts,
    frame_P, frame_PI, frame_RI, preserves_P_PI, algebraic_PI_RI⟩

end Cert.Proof

end
